-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_KernelIdeal [hPre_finite_in_KernelIdeal : Cert.Pre_finite_in_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_ReferenceIdeal [hPre_finite_in_ReferenceIdeal : Cert.Pre_finite_in_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_KernelIdeal [hKernelIdeal : Cert.KernelIdeal.Facts] [hPre_finite_in_KernelIdeal : Cert.Pre_finite_in_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_ReferenceIdeal [hReferenceIdeal : Cert.ReferenceIdeal.Facts] [hPre_finite_in_ReferenceIdeal : Cert.Pre_finite_in_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((11863283 * 134217728⁻¹) * (Real.log 2)⁻¹ : ℝ) : EReal)

def algebraic_KernelIdeal_ReferenceIdeal_pre_finite_in_KernelIdeal [hKernelIdeal : Cert.KernelIdeal.Facts] [hReferenceIdeal : Cert.ReferenceIdeal.Facts] [hPre_finite_in_KernelIdeal : Cert.Pre_finite_in_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 4096, 8, 128]⟩ ⟨4, ![1, 4096, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_in_KernelIdeal : Cert.Pre_finite_in_KernelIdeal.Facts) (hPre_finite_in_ReferenceIdeal : Cert.Pre_finite_in_ReferenceIdeal.Facts),
    quiescent_Kernel (hKernel := hKernel)
    ∧ quiescent_KernelIdeal (hKernelIdeal := hKernelIdeal)
    ∧ quiescent_KernelIdeal_pre_finite_in_KernelIdeal (hKernelIdeal := hKernelIdeal) (hPre_finite_in_KernelIdeal := hPre_finite_in_KernelIdeal)
    ∧ quiescent_ReferenceIdeal (hReferenceIdeal := hReferenceIdeal)
    ∧ quiescent_ReferenceIdeal_pre_finite_in_ReferenceIdeal (hReferenceIdeal := hReferenceIdeal) (hPre_finite_in_ReferenceIdeal := hPre_finite_in_ReferenceIdeal)
    ∧ preserves_Kernel_KernelIdeal
    ∧ algebraic_KernelIdeal_ReferenceIdeal_pre_finite_in_KernelIdeal (hKernelIdeal := hKernelIdeal) (hReferenceIdeal := hReferenceIdeal) (hPre_finite_in_KernelIdeal := hPre_finite_in_KernelIdeal)
-- ==== Pre_finite_in_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_in_ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x4096x128x128 : S_.BroadcastsInDim S1x4096x128x128 (![] : Fin 0 → Fin S1x4096x128x128.rank)
  reducesTo_S1x4096x128x128_S_d0_1_2_3 : S1x4096x128x128.ReducesTo [0, 1, 2, 3] S_

variable [Facts]

def fn {F : FTy → Type} [FloatOps F] (main_arg0 : FVec F S1x256x1024 .f32) (main_arg1 : FVec F S1024x16384 .f32) (main_arg2 : FVec F S1x4096x128x128 .f32) (main_arg3 : FVec F S1x4096x128x128 .f32) (main_arg4 : FVec F S16384x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x4096x128x128 .f32 := Host.absf main_arg2
  let main_cst_2 : FVec F S_ .f32 := constant S_ .f32 0x7F800000#32
  let main_v10 : FVec F S1x4096x128x128 .f32 := broadcastInDim S1x4096x128x128 ![] bcast_S_S1x4096x128x128 main_cst_2
  let main_v11 : IVec S1x4096x128x128 1 := cmpf .olt main_v9 main_v10
  let main_c_3 : IVec S_ 1 := constantI S_ 1 1#1
  let main_v12 : IVec S_ 1 := (fun x v => Host.reduce IntOp.andi x v reducesTo_S1x4096x128x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S3x4096x128 : Shape := ⟨3, ![3, 4096, 128]⟩
abbrev S3x2 : Shape := ⟨2, ![3, 2]⟩
abbrev S256x1024 : Shape := ⟨2, ![256, 1024]⟩
abbrev S16x16x1024 : Shape := ⟨3, ![16, 16, 1024]⟩
abbrev S16 : Shape := ⟨1, ![16]⟩
abbrev S_ : Shape := ⟨0, ![]⟩
abbrev S4096x8 : Shape := ⟨2, ![4096, 8]⟩
abbrev S1x1 : Shape := ⟨2, ![1, 1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256x8 : Shape := ⟨2, ![256, 8]⟩
abbrev S256x1 : Shape := ⟨2, ![256, 1]⟩
abbrev S128x1024 : Shape := ⟨2, ![128, 1024]⟩
abbrev S1 : Shape := ⟨1, ![1]⟩
abbrev S1x16x1024 : Shape := ⟨3, ![1, 16, 1024]⟩
abbrev S16x1024 : Shape := ⟨2, ![16, 1024]⟩
abbrev S15x16x1024 : Shape := ⟨3, ![15, 16, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S3x4096x128, .f32⟩
  | .local _ .vmem, ⟨5, _⟩ => ⟨S3x4096x128, .f32⟩
  | .local _ .vmem, ⟨6, _⟩ => ⟨S256x1024, .bf16⟩
  | .local _ .vmem, ⟨7, _⟩ => ⟨S16x16x1024, .bf16⟩
  | .local _ .vmem, ⟨8, _⟩ => ⟨S16x16x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_485 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v465 : BitVec 32 := Scalar.addi v2 c1_i32_485
  let c16_i32_486 : BitVec 32 := 16#32
  let v466 : BitVec 32 := Scalar.remsi v465 c16_i32_486
  let c16_i32_487 : BitVec 32 := 16#32
  let v467 : BitVec 32 := Scalar.muli v466 c16_i32_487
  let c0_i32_495 : BitVec 32 := 0#32
  ![v467.toNat, 0]
def k0_dev16 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_485 : BitVec 32 := 1#32
  let v465 : BitVec 32 := Scalar.addi v2 c1_i32_485
  let c16_i32_486 : BitVec 32 := 16#32
  let v466 : BitVec 32 := Scalar.remsi v465 c16_i32_486
  let c1_i32_491 : BitVec 32 := 1#32
  let v468 : BitVec 32 := Scalar.muli v466 c1_i32_491
  let v469 : BitVec 32 := Scalar.addi c0_i32_492 v468
  v469.toNat
def k0_dev17 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_496 : BitVec 32 := 2#32
  let v477 : BitVec 32 := Scalar.addi v2 c2_i32_496
  let c16_i32_497 : BitVec 32 := 16#32
  let v478 : BitVec 32 := Scalar.remsi v477 c16_i32_497
  let c1_i32_502 : BitVec 32 := 1#32
  let v480 : BitVec 32 := Scalar.muli v478 c1_i32_502
  let v481 : BitVec 32 := Scalar.addi c0_i32_503 v480
  v481.toNat
def k0_dev18 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_507 : BitVec 32 := 3#32
  let v489 : BitVec 32 := Scalar.addi v2 c3_i32_507
  let c16_i32_508 : BitVec 32 := 16#32
  let v490 : BitVec 32 := Scalar.remsi v489 c16_i32_508
  let c1_i32_513 : BitVec 32 := 1#32
  let v492 : BitVec 32 := Scalar.muli v490 c1_i32_513
  let v493 : BitVec 32 := Scalar.addi c0_i32_514 v492
  v493.toNat
def k0_dev19 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_518 : BitVec 32 := 4#32
  let v501 : BitVec 32 := Scalar.addi v2 c4_i32_518
  let c16_i32_519 : BitVec 32 := 16#32
  let v502 : BitVec 32 := Scalar.remsi v501 c16_i32_519
  let c1_i32_524 : BitVec 32 := 1#32
  let v504 : BitVec 32 := Scalar.muli v502 c1_i32_524
  let v505 : BitVec 32 := Scalar.addi c0_i32_525 v504
  v505.toNat
def k0_dev20 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_529 : BitVec 32 := 5#32
  let v513 : BitVec 32 := Scalar.addi v2 c5_i32_529
  let c16_i32_530 : BitVec 32 := 16#32
  let v514 : BitVec 32 := Scalar.remsi v513 c16_i32_530
  let c1_i32_535 : BitVec 32 := 1#32
  let v516 : BitVec 32 := Scalar.muli v514 c1_i32_535
  let v517 : BitVec 32 := Scalar.addi c0_i32_536 v516
  v517.toNat
def k0_dev21 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_540 : BitVec 32 := 6#32
  let v525 : BitVec 32 := Scalar.addi v2 c6_i32_540
  let c16_i32_541 : BitVec 32 := 16#32
  let v526 : BitVec 32 := Scalar.remsi v525 c16_i32_541
  let c1_i32_546 : BitVec 32 := 1#32
  let v528 : BitVec 32 := Scalar.muli v526 c1_i32_546
  let v529 : BitVec 32 := Scalar.addi c0_i32_547 v528
  v529.toNat
def k0_dev22 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_551 : BitVec 32 := 7#32
  let v537 : BitVec 32 := Scalar.addi v2 c7_i32_551
  let c16_i32_552 : BitVec 32 := 16#32
  let v538 : BitVec 32 := Scalar.remsi v537 c16_i32_552
  let c1_i32_557 : BitVec 32 := 1#32
  let v540 : BitVec 32 := Scalar.muli v538 c1_i32_557
  let v541 : BitVec 32 := Scalar.addi c0_i32_558 v540
  v541.toNat
def k0_dev23 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_562 : BitVec 32 := 8#32
  let v549 : BitVec 32 := Scalar.addi v2 c8_i32_562
  let c16_i32_563 : BitVec 32 := 16#32
  let v550 : BitVec 32 := Scalar.remsi v549 c16_i32_563
  let c1_i32_568 : BitVec 32 := 1#32
  let v552 : BitVec 32 := Scalar.muli v550 c1_i32_568
  let v553 : BitVec 32 := Scalar.addi c0_i32_569 v552
  v553.toNat
def k0_dev24 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_573 : BitVec 32 := 9#32
  let v561 : BitVec 32 := Scalar.addi v2 c9_i32_573
  let c16_i32_574 : BitVec 32 := 16#32
  let v562 : BitVec 32 := Scalar.remsi v561 c16_i32_574
  let c1_i32_579 : BitVec 32 := 1#32
  let v564 : BitVec 32 := Scalar.muli v562 c1_i32_579
  let v565 : BitVec 32 := Scalar.addi c0_i32_580 v564
  v565.toNat
def k0_dev25 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_584 : BitVec 32 := 10#32
  let v573 : BitVec 32 := Scalar.addi v2 c10_i32_584
  let c16_i32_585 : BitVec 32 := 16#32
  let v574 : BitVec 32 := Scalar.remsi v573 c16_i32_585
  let c1_i32_590 : BitVec 32 := 1#32
  let v576 : BitVec 32 := Scalar.muli v574 c1_i32_590
  let v577 : BitVec 32 := Scalar.addi c0_i32_591 v576
  v577.toNat
def k0_dev26 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_595 : BitVec 32 := 11#32
  let v585 : BitVec 32 := Scalar.addi v2 c11_i32_595
  let c16_i32_596 : BitVec 32 := 16#32
  let v586 : BitVec 32 := Scalar.remsi v585 c16_i32_596
  let c1_i32_601 : BitVec 32 := 1#32
  let v588 : BitVec 32 := Scalar.muli v586 c1_i32_601
  let v589 : BitVec 32 := Scalar.addi c0_i32_602 v588
  v589.toNat
def k0_dev27 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_606 : BitVec 32 := 12#32
  let v597 : BitVec 32 := Scalar.addi v2 c12_i32_606
  let c16_i32_607 : BitVec 32 := 16#32
  let v598 : BitVec 32 := Scalar.remsi v597 c16_i32_607
  let c1_i32_612 : BitVec 32 := 1#32
  let v600 : BitVec 32 := Scalar.muli v598 c1_i32_612
  let v601 : BitVec 32 := Scalar.addi c0_i32_613 v600
  v601.toNat
def k0_dev28 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_617 : BitVec 32 := 13#32
  let v609 : BitVec 32 := Scalar.addi v2 c13_i32_617
  let c16_i32_618 : BitVec 32 := 16#32
  let v610 : BitVec 32 := Scalar.remsi v609 c16_i32_618
  let c1_i32_623 : BitVec 32 := 1#32
  let v612 : BitVec 32 := Scalar.muli v610 c1_i32_623
  let v613 : BitVec 32 := Scalar.addi c0_i32_624 v612
  v613.toNat
def k0_dev29 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_628 : BitVec 32 := 14#32
  let v621 : BitVec 32 := Scalar.addi v2 c14_i32_628
  let c16_i32_629 : BitVec 32 := 16#32
  let v622 : BitVec 32 := Scalar.remsi v621 c16_i32_629
  let c1_i32_634 : BitVec 32 := 1#32
  let v624 : BitVec 32 := Scalar.muli v622 c1_i32_634
  let v625 : BitVec 32 := Scalar.addi c0_i32_635 v624
  v625.toNat
def k0_dev30 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_639 : BitVec 32 := 15#32
  let v633 : BitVec 32 := Scalar.addi v2 c15_i32_639
  let c16_i32_640 : BitVec 32 := 16#32
  let v634 : BitVec 32 := Scalar.remsi v633 c16_i32_640
  let c1_i32_645 : BitVec 32 := 1#32
  let v636 : BitVec 32 := Scalar.muli v634 c1_i32_645
  let v637 : BitVec 32 := Scalar.addi c0_i32_646 v636
  v637.toNat
def k0_off2 (d0 : Dev nD) : Fin 3 → Nat :=
  let c0_801 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_800 : BitVec 32 := 16#32
  let v765 : BitVec 32 := Scalar.muli v2 c16_i32_800
  let v766 : Index := Scalar.indexCast v765
  let c0_802 : Index := 0#32
  ![0, v766.toNat, 0]
def k0_dev31 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_814 : BitVec 32 := 1#32
  let v784 : BitVec 32 := Scalar.addi v2 c1_i32_814
  let c16_i32_815 : BitVec 32 := 16#32
  let v785 : BitVec 32 := Scalar.remsi v784 c16_i32_815
  let c1_i32_820 : BitVec 32 := 1#32
  let v786 : BitVec 32 := Scalar.muli v785 c1_i32_820
  let v787 : BitVec 32 := Scalar.addi c0_i32_821 v786
  v787.toNat
def k0_dev32 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_826 : BitVec 32 := 2#32
  let v796 : BitVec 32 := Scalar.addi v2 c2_i32_826
  let c16_i32_827 : BitVec 32 := 16#32
  let v797 : BitVec 32 := Scalar.remsi v796 c16_i32_827
  let c1_i32_832 : BitVec 32 := 1#32
  let v798 : BitVec 32 := Scalar.muli v797 c1_i32_832
  let v799 : BitVec 32 := Scalar.addi c0_i32_833 v798
  v799.toNat
def k0_dev33 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_838 : BitVec 32 := 3#32
  let v808 : BitVec 32 := Scalar.addi v2 c3_i32_838
  let c16_i32_839 : BitVec 32 := 16#32
  let v809 : BitVec 32 := Scalar.remsi v808 c16_i32_839
  let c1_i32_844 : BitVec 32 := 1#32
  let v810 : BitVec 32 := Scalar.muli v809 c1_i32_844
  let v811 : BitVec 32 := Scalar.addi c0_i32_845 v810
  v811.toNat
def k0_dev34 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_850 : BitVec 32 := 4#32
  let v820 : BitVec 32 := Scalar.addi v2 c4_i32_850
  let c16_i32_851 : BitVec 32 := 16#32
  let v821 : BitVec 32 := Scalar.remsi v820 c16_i32_851
  let c1_i32_856 : BitVec 32 := 1#32
  let v822 : BitVec 32 := Scalar.muli v821 c1_i32_856
  let v823 : BitVec 32 := Scalar.addi c0_i32_857 v822
  v823.toNat
def k0_dev35 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_862 : BitVec 32 := 5#32
  let v832 : BitVec 32 := Scalar.addi v2 c5_i32_862
  let c16_i32_863 : BitVec 32 := 16#32
  let v833 : BitVec 32 := Scalar.remsi v832 c16_i32_863
  let c1_i32_868 : BitVec 32 := 1#32
  let v834 : BitVec 32 := Scalar.muli v833 c1_i32_868
  let v835 : BitVec 32 := Scalar.addi c0_i32_869 v834
  v835.toNat
def k0_dev36 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_874 : BitVec 32 := 6#32
  let v844 : BitVec 32 := Scalar.addi v2 c6_i32_874
  let c16_i32_875 : BitVec 32 := 16#32
  let v845 : BitVec 32 := Scalar.remsi v844 c16_i32_875
  let c1_i32_880 : BitVec 32 := 1#32
  let v846 : BitVec 32 := Scalar.muli v845 c1_i32_880
  let v847 : BitVec 32 := Scalar.addi c0_i32_881 v846
  v847.toNat
def k0_dev37 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_886 : BitVec 32 := 7#32
  let v856 : BitVec 32 := Scalar.addi v2 c7_i32_886
  let c16_i32_887 : BitVec 32 := 16#32
  let v857 : BitVec 32 := Scalar.remsi v856 c16_i32_887
  let c1_i32_892 : BitVec 32 := 1#32
  let v858 : BitVec 32 := Scalar.muli v857 c1_i32_892
  let v859 : BitVec 32 := Scalar.addi c0_i32_893 v858
  v859.toNat
def k0_dev38 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_898 : BitVec 32 := 8#32
  let v868 : BitVec 32 := Scalar.addi v2 c8_i32_898
  let c16_i32_899 : BitVec 32 := 16#32
  let v869 : BitVec 32 := Scalar.remsi v868 c16_i32_899
  let c1_i32_904 : BitVec 32 := 1#32
  let v870 : BitVec 32 := Scalar.muli v869 c1_i32_904
  let v871 : BitVec 32 := Scalar.addi c0_i32_905 v870
  v871.toNat
def k0_dev39 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_910 : BitVec 32 := 9#32
  let v880 : BitVec 32 := Scalar.addi v2 c9_i32_910
  let c16_i32_911 : BitVec 32 := 16#32
  let v881 : BitVec 32 := Scalar.remsi v880 c16_i32_911
  let c1_i32_916 : BitVec 32 := 1#32
  let v882 : BitVec 32 := Scalar.muli v881 c1_i32_916
  let v883 : BitVec 32 := Scalar.addi c0_i32_917 v882
  v883.toNat
def k0_dev40 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_922 : BitVec 32 := 10#32
  let v892 : BitVec 32 := Scalar.addi v2 c10_i32_922
  let c16_i32_923 : BitVec 32 := 16#32
  let v893 : BitVec 32 := Scalar.remsi v892 c16_i32_923
  let c1_i32_928 : BitVec 32 := 1#32
  let v894 : BitVec 32 := Scalar.muli v893 c1_i32_928
  let v895 : BitVec 32 := Scalar.addi c0_i32_929 v894
  v895.toNat
def k0_dev41 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_934 : BitVec 32 := 11#32
  let v904 : BitVec 32 := Scalar.addi v2 c11_i32_934
  let c16_i32_935 : BitVec 32 := 16#32
  let v905 : BitVec 32 := Scalar.remsi v904 c16_i32_935
  let c1_i32_940 : BitVec 32 := 1#32
  let v906 : BitVec 32 := Scalar.muli v905 c1_i32_940
  let v907 : BitVec 32 := Scalar.addi c0_i32_941 v906
  v907.toNat
def k0_dev42 (d0 : Dev nD) : Nat :=
  let c0_i32_953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_946 : BitVec 32 := 12#32
  let v916 : BitVec 32 := Scalar.addi v2 c12_i32_946
  let c16_i32_947 : BitVec 32 := 16#32
  let v917 : BitVec 32 := Scalar.remsi v916 c16_i32_947
  let c1_i32_952 : BitVec 32 := 1#32
  let v918 : BitVec 32 := Scalar.muli v917 c1_i32_952
  let v919 : BitVec 32 := Scalar.addi c0_i32_953 v918
  v919.toNat
def k0_dev43 (d0 : Dev nD) : Nat :=
  let c0_i32_965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_958 : BitVec 32 := 13#32
  let v928 : BitVec 32 := Scalar.addi v2 c13_i32_958
  let c16_i32_959 : BitVec 32 := 16#32
  let v929 : BitVec 32 := Scalar.remsi v928 c16_i32_959
  let c1_i32_964 : BitVec 32 := 1#32
  let v930 : BitVec 32 := Scalar.muli v929 c1_i32_964
  let v931 : BitVec 32 := Scalar.addi c0_i32_965 v930
  v931.toNat
def k0_dev44 (d0 : Dev nD) : Nat :=
  let c0_i32_977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_970 : BitVec 32 := 14#32
  let v940 : BitVec 32 := Scalar.addi v2 c14_i32_970
  let c16_i32_971 : BitVec 32 := 16#32
  let v941 : BitVec 32 := Scalar.remsi v940 c16_i32_971
  let c1_i32_976 : BitVec 32 := 1#32
  let v942 : BitVec 32 := Scalar.muli v941 c1_i32_976
  let v943 : BitVec 32 := Scalar.addi c0_i32_977 v942
  v943.toNat
def k0_dev45 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_982 : BitVec 32 := 15#32
  let v952 : BitVec 32 := Scalar.addi v2 c15_i32_982
  let c16_i32_983 : BitVec 32 := 16#32
  let v953 : BitVec 32 := Scalar.remsi v952 c16_i32_983
  let c1_i32_988 : BitVec 32 := 1#32
  let v954 : BitVec 32 := Scalar.muli v953 c1_i32_988
  let v955 : BitVec 32 := Scalar.addi c0_i32_989 v954
  v955.toNat
def k0_off3 (d0 : Dev nD) (c1_i32_1004 : BitVec 32) : Fin 3 → Nat :=
  let c0_1010 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v972 : BitVec 32 := Scalar.addi v2 c1_i32_1004
  let c16_i32_1005 : BitVec 32 := 16#32
  let v973 : BitVec 32 := Scalar.remsi v972 c16_i32_1005
  let c16_i32_1006 : BitVec 32 := 16#32
  let v974 : BitVec 32 := Scalar.muli v973 c16_i32_1006
  let v978 : Index := Scalar.indexCast v974
  let c0_1011 : Index := 0#32
  ![0, v978.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale_log2e" => some (((11863283 * 134217728⁻¹) * (Real.log 2)⁻¹ : ℝ) : EReal)
  | _ => none
-- ==== ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S1x256x16384 : Shape := ⟨3, ![1, 256, 16384]⟩
abbrev S1x256x128x128 : Shape := ⟨4, ![1, 256, 128, 128]⟩
abbrev S_ : Shape := ⟨0, ![]⟩
abbrev S1x128x256x1 : Shape := ⟨4, ![1, 128, 256, 1]⟩
abbrev S1x1024x128x128 : Shape := ⟨4, ![1, 1024, 128, 128]⟩
abbrev S1x128x256x1024 : Shape := ⟨4, ![1, 128, 256, 1024]⟩
abbrev S1x128x256 : Shape := ⟨3, ![1, 128, 256]⟩
abbrev S1x256x128x1 : Shape := ⟨4, ![1, 256, 128, 1]⟩
abbrev S1x128x128x256 : Shape := ⟨4, ![1, 128, 128, 256]⟩

abbrev nBuf : Space → Nat
  | .hbm => 122
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S1x4096x128x128, .f32⟩
  | .hbm, ⟨3, _⟩ => ⟨S1x4096x128x128, .f32⟩
  | .hbm, ⟨4, _⟩ => ⟨S16384x1024, .f32⟩
  | .hbm, ⟨5, _⟩ => ⟨S1x256x16384, .f32⟩
  | .hbm, ⟨6, _⟩ => ⟨S1x256x128x128, .f32⟩
  | .hbm, ⟨7, _⟩ => ⟨S_, .f32⟩
  | .hbm, ⟨8, _⟩ => ⟨S1x256x128x128, .f32⟩
  | .hbm, ⟨9, _⟩ => ⟨S_, .f32⟩
  | .hbm, ⟨10, _⟩ => ⟨S1x128x256x1, .f32⟩
  | .hbm, ⟨11, _⟩ => ⟨S_, .f32⟩
  | .hbm, ⟨12, _⟩ => ⟨S1x128x256x1, .f32⟩
  | .hbm, ⟨13, _⟩ => ⟨S1x1024x128x128, .f32⟩
  | .hbm, ⟨14, _⟩ => ⟨S1x1024x128x128, .f32⟩
  | .hbm, ⟨15, _⟩ => ⟨S1x128x256x1024, .f32⟩
  | .hbm, ⟨16, _⟩ => ⟨S_, .f32⟩
  | .hbm, ⟨17, _⟩ => ⟨S1x128x256x1024, .f32⟩
  | .hbm, ⟨18, _⟩ => ⟨S1x128x256x1024, .f32⟩
  | .hbm, ⟨19, _⟩ => ⟨S_, .f32⟩
  | .hbm, ⟨20, _⟩ => ⟨S1x128x256, .f32⟩
  | .hbm, ⟨21, _⟩ => ⟨S1x128x256x1, .f32⟩
  | .hbm, ⟨22, _⟩ => ⟨S1x128x256x1, .f32⟩
  | .hbm, ⟨23, _⟩ => ⟨S1x128x256x1, .f32⟩
  | .hbm, ⟨24, _⟩ => ⟨S1x128x256x1, .f32⟩
  | .hbm, ⟨25, _⟩ => ⟨S1x128x256x1024, .f32⟩
  | .hbm, ⟨26, _⟩ => ⟨S1x128x256x1024, .f32⟩
  | .hbm, ⟨27, _⟩ => ⟨S1x128x256x1024, .f32⟩
  | .hbm, ⟨28, _⟩ => ⟨S1x128x256x1, .f32⟩
  | .hbm, ⟨29, _⟩ => ⟨S_, .f32⟩
  | .hbm, ⟨30, _⟩ => ⟨S1x128x256, .f32⟩
  | .hbm, ⟨31, _⟩ => ⟨S1x128x256x1, .f32⟩
  | .hbm, ⟨32, _⟩ => ⟨S1x128x256x1, .f32⟩
  | .hbm, ⟨33, _⟩ => ⟨S1x256x128x1, .f32⟩
  | .hbm, ⟨34, _⟩ => ⟨S1x256x128x128, .f32⟩
  | .hbm, ⟨35, _⟩ => ⟨S1x256x128x128, .f32⟩
  | .hbm, ⟨36, _⟩ => ⟨S1x128x128x256, .f32⟩
  | .hbm, ⟨37, _⟩ => ⟨S1x256x128x128, .f32⟩
  | .hbm, ⟨38, _⟩ => ⟨S1x256x128x128, .f32⟩
  | .hbm, ⟨39, _⟩ => ⟨S1x1024x128x128, .f32⟩
  | .hbm, ⟨40, _⟩ => ⟨S1x1024x128x128, .f32⟩
  | .hbm, ⟨41, _⟩ => ⟨S1x128x256x1024, .f32⟩
  | .hbm, ⟨42, _⟩ => ⟨S_, .f32⟩
  | .hbm, ⟨43, _⟩ => ⟨S1x128x256x1024, .f32⟩
  | .hbm, ⟨44, _⟩ => ⟨S1x128x256x1024, .f32⟩
  | .hbm, ⟨45, _⟩ => ⟨S_, .f32⟩
  | .hbm, ⟨46, _⟩ => ⟨S1x128x256, .f32⟩
  | .hbm, ⟨47, _⟩ => ⟨S1x128x256x1, .f32⟩
  | .hbm, ⟨48, _⟩ => ⟨S1x128x256x1, .f32⟩
  | .hbm, ⟨49, _⟩ => ⟨S1x128x256x1, .f32⟩
  | .hbm, ⟨50, _⟩ => ⟨S1x128x256x1, .f32⟩
  | .hbm, ⟨51, _⟩ => ⟨S1x128x256x1024, .f32⟩
  | .hbm, ⟨52, _⟩ => ⟨S1x128x256x1024, .f32⟩
  | .hbm, ⟨53, _⟩ => ⟨S1x128x256x1024, .f32⟩
  | .hbm, ⟨54, _⟩ => ⟨S1x128x256x1, .f32⟩
  | .hbm, ⟨55, _⟩ => ⟨S_, .f32⟩
  | .hbm, ⟨56, _⟩ => ⟨S1x128x256, .f32⟩
  | .hbm, ⟨57, _⟩ => ⟨S1x128x256x1, .f32⟩
  | .hbm, ⟨58, _⟩ => ⟨S1x128x256x1, .f32⟩
  | .hbm, ⟨59, _⟩ => ⟨S1x256x128x1, .f32⟩
  | .hbm, ⟨60, _⟩ => ⟨S1x256x128x128, .f32⟩
  | .hbm, ⟨61, _⟩ => ⟨S1x256x128x128, .f32⟩
  | .hbm, ⟨62, _⟩ => ⟨S1x128x128x256, .f32⟩
  | .hbm, ⟨63, _⟩ => ⟨S1x256x128x128, .f32⟩
  | .hbm, ⟨64, _⟩ => ⟨S1x256x128x128, .f32⟩
  | .hbm, ⟨65, _⟩ => ⟨S1x1024x128x128, .f32⟩
  | .hbm, ⟨66, _⟩ => ⟨S1x1024x128x128, .f32⟩
  | .hbm, ⟨67, _⟩ => ⟨S1x128x256x1024, .f32⟩
  | .hbm, ⟨68, _⟩ => ⟨S_, .f32⟩
  | .hbm, ⟨69, _⟩ => ⟨S1x128x256x1024, .f32⟩
  | .hbm, ⟨70, _⟩ => ⟨S1x128x256x1024, .f32⟩
  | .hbm, ⟨71, _⟩ => ⟨S_, .f32⟩
  | .hbm, ⟨72, _⟩ => ⟨S1x128x256, .f32⟩
  | .hbm, ⟨73, _⟩ => ⟨S1x128x256x1, .f32⟩
  | .hbm, ⟨74, _⟩ => ⟨S1x128x256x1, .f32⟩
  | .hbm, ⟨75, _⟩ => ⟨S1x128x256x1, .f32⟩
  | .hbm, ⟨76, _⟩ => ⟨S1x128x256x1, .f32⟩
  | .hbm, ⟨77, _⟩ => ⟨S1x128x256x1024, .f32⟩
  | .hbm, ⟨78, _⟩ => ⟨S1x128x256x1024, .f32⟩
  | .hbm, ⟨79, _⟩ => ⟨S1x128x256x1024, .f32⟩
  | .hbm, ⟨80, _⟩ => ⟨S1x128x256x1, .f32⟩
  | .hbm, ⟨81, _⟩ => ⟨S_, .f32⟩
  | .hbm, ⟨82, _⟩ => ⟨S1x128x256, .f32⟩
  | .hbm, ⟨83, _⟩ => ⟨S1x128x256x1, .f32⟩
  | .hbm, ⟨84, _⟩ => ⟨S1x128x256x1, .f32⟩
  | .hbm, ⟨85, _⟩ => ⟨S1x256x128x1, .f32⟩
  | .hbm, ⟨86, _⟩ => ⟨S1x256x128x128, .f32⟩
  | .hbm, ⟨87, _⟩ => ⟨S1x256x128x128, .f32⟩
  | .hbm, ⟨88, _⟩ => ⟨S1x128x128x256, .f32⟩
  | .hbm, ⟨89, _⟩ => ⟨S1x256x128x128, .f32⟩
  | .hbm, ⟨90, _⟩ => ⟨S1x256x128x128, .f32⟩
  | .hbm, ⟨91, _⟩ => ⟨S1x1024x128x128, .f32⟩
  | .hbm, ⟨92, _⟩ => ⟨S1x1024x128x128, .f32⟩
  | .hbm, ⟨93, _⟩ => ⟨S1x128x256x1024, .f32⟩
  | .hbm, ⟨94, _⟩ => ⟨S_, .f32⟩
  | .hbm, ⟨95, _⟩ => ⟨S1x128x256x1024, .f32⟩
  | .hbm, ⟨96, _⟩ => ⟨S1x128x256x1024, .f32⟩
  | .hbm, ⟨97, _⟩ => ⟨S_, .f32⟩
  | .hbm, ⟨98, _⟩ => ⟨S1x128x256, .f32⟩
  | .hbm, ⟨99, _⟩ => ⟨S1x128x256x1, .f32⟩
  | .hbm, ⟨100, _⟩ => ⟨S1x128x256x1, .f32⟩
  | .hbm, ⟨101, _⟩ => ⟨S1x128x256x1, .f32⟩
  | .hbm, ⟨102, _⟩ => ⟨S1x128x256x1, .f32⟩
  | .hbm, ⟨103, _⟩ => ⟨S1x128x256x1024, .f32⟩
  | .hbm, ⟨104, _⟩ => ⟨S1x128x256x1024, .f32⟩
  | .hbm, ⟨105, _⟩ => ⟨S1x128x256x1024, .f32⟩
  | .hbm, ⟨106, _⟩ => ⟨S1x128x256x1, .f32⟩
  | .hbm, ⟨107, _⟩ => ⟨S_, .f32⟩
  | .hbm, ⟨108, _⟩ => ⟨S1x128x256, .f32⟩
  | .hbm, ⟨109, _⟩ => ⟨S1x128x256x1, .f32⟩
  | .hbm, ⟨110, _⟩ => ⟨S1x128x256x1, .f32⟩
  | .hbm, ⟨111, _⟩ => ⟨S1x256x128x1, .f32⟩
  | .hbm, ⟨112, _⟩ => ⟨S1x256x128x128, .f32⟩
  | .hbm, ⟨113, _⟩ => ⟨S1x256x128x128, .f32⟩
  | .hbm, ⟨114, _⟩ => ⟨S1x128x128x256, .f32⟩
  | .hbm, ⟨115, _⟩ => ⟨S1x256x128x128, .f32⟩
  | .hbm, ⟨116, _⟩ => ⟨S1x256x128x128, .f32⟩
  | .hbm, ⟨117, _⟩ => ⟨S1x256x128x1, .f32⟩
  | .hbm, ⟨118, _⟩ => ⟨S1x256x128x128, .f32⟩
  | .hbm, ⟨119, _⟩ => ⟨S1x256x128x128, .f32⟩
  | .hbm, ⟨120, _⟩ => ⟨S1x256x16384, .f32⟩
  | .hbm, ⟨121, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.Shape.lean ====
module

public import proofs.«01_k».proof.Proof.Gen.KernelIdeal
public import proofs.«01_k».proof.Proof.Gen.KernelIdeal.Skeleton
public import proofs.«01_k».proof.Proof.Gen.KernelIdeal.Points

/-!
# The kernel's body by its phases

The printed body is one long text in which each of the fifteen peers of a device appears by number. Here it is written with the
peer as a variable: eight phases, six of them a fold over the list of the fifteen distances.
-/

@[expose] public section

noncomputable section

namespace Cert.KernelIdeal.Mesh

open Cert.KernelIdeal Cert.KernelIdeal.Gen
open Idealize.ShloMosaic Idealize.SL.Sem
open Idealize.ShloMosaic.TcCoe

attribute [local instance] Cert.KernelIdeal.Gen.facts

set_option Elab.async false

variable {F : FTy → Type} [FloatOps F] [Named F]

/-- A core's program. -/
abbrev P (F : FTy → Type) (α : Type) := Prog (TpuEff nD τ sig (Elt F) Λ₀ .tc) α

/-! ## Buffers, semaphores, devices -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev oM : Memref sig .tc .vmem S1x256x1024 .f32 := Memref.whole cc0_stg3_0
abbrev kM : Memref sig .tc .hbm S1x4096x8x128 .f32 := Memref.whole main_arg2
abbrev vM : Memref sig .tc .hbm S1x4096x8x128 .f32 := Memref.whole main_arg3
abbrev kbM : Memref sig .tc .vmem S3x4096x128 .f32 := Memref.whole cc0_scratch0
abbrev vbM : Memref sig .tc .vmem S3x4096x128 .f32 := Memref.whole cc0_scratch1
abbrev pM : Memref sig .tc .vmem S256x1024 .bf16 := Memref.whole cc0_scratch3
abbrev rM : Memref sig .tc .vmem S16x16x1024 .bf16 := Memref.whole cc0_scratch4
abbrev gM : Memref sig .tc .vmem S16x16x1024 .bf16 := Memref.whole cc0_scratch5

/-- The fifteen distances, less one. -/
def rs : List (Fin 15) := [0, 1, 2, 3, 4, 5, 6, 7, 8, 9, 10, 11, 12, 13, 14]

theorem inb16 (k : Fin 16) : ∀ a, (![k.val, 0, 0] : Fin 3 → ℕ) a + S1x16x1024.size a ≤ S16x16x1024.size a := by revert k; decide
theorem inbS (k : Fin 16) : ∀ a, (![k.val] : Fin 1 → ℕ) a + S1.size a ≤ S16.size a := by revert k; decide
theorem words16 (k : Fin 16) : (Rect.unit (s := S16x16x1024) ![k.val, 0, 0] S1x16x1024.size (inb16 k)).WholeWords (EltTy.packing .bf16) := by
  revert k; decide

/-- Slot k of an exchange buffer, as a rectangle and as the memref that the copies name. -/
abbrev slotR (k : Fin 16) : Rect S16x16x1024 := Rect.unit (s := S16x16x1024) ![k.val, 0, 0] S1x16x1024.size (inb16 k)
@[inherit_doc slotR] abbrev slot (M : Memref sig .tc .vmem S16x16x1024 .bf16) (k : Fin 16) : Memref sig .tc .vmem S16x1024 .bf16 :=
  (M.slice (slotR k) (fun _ => rfl)).squeeze S16x1024 squeezes_S1x16x1024_S16x1024

/-- The rows of the partial sums that go to the device at distance r + 1. -/
abbrev rows (c : Dev nD) (r : Fin 15) : Memref sig .tc .vmem S16x1024 .bf16 :=
  pM.slice (Rect.unit (s := S256x1024) (k0_off1 c (BitVec.ofNat 32 (1 + r.val))) S16x1024.size (k0_off1_inb c r)) (fun _ => rfl)

/-- The rows of the result that the device at distance r + 1 reduces, and a device's own. -/
abbrev outR (c : Dev nD) (r : Fin 15) : Rect S1x256x1024 := Rect.unit (s := S1x256x1024) (k0_off3 c (BitVec.ofNat 32 (1 + r.val))) S1x16x1024.size (k0_off3_inb c r)
@[inherit_doc outR] abbrev mineR (c : Dev nD) : Rect S1x256x1024 := Rect.unit (s := S1x256x1024) (k0_off2 c) S1x16x1024.size (k0_off2_inb c)

/-- Semaphore k of one of the four families. -/
abbrev semOf (A : DmaSems sig S16) (k : Fin 16) : DmaSem sig := ((A.slice (Rect.unit (s := S16) ![k.val] S1.size (inbS k))).squeeze S_ squeezes_S1_S_).sem
abbrev barSem : Sem sig := (SemArray.scalar (sig.barrier 0 rfl) : Sems sig S_).sem

/-- The devices addressed, by the distance: by the signals, by the first exchange, by the second. -/
def devB (c : Dev nD) : Fin 15 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | 14 => ⟨k0_dev15 c, k0_dev15_lt c⟩
/-- The devices addressed by the first exchange. -/
def devR (c : Dev nD) : Fin 15 → Dev nD
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩
  | 5 => ⟨k0_dev21 c, k0_dev21_lt c⟩
  | 6 => ⟨k0_dev22 c, k0_dev22_lt c⟩
  | 7 => ⟨k0_dev23 c, k0_dev23_lt c⟩
  | 8 => ⟨k0_dev24 c, k0_dev24_lt c⟩
  | 9 => ⟨k0_dev25 c, k0_dev25_lt c⟩
  | 10 => ⟨k0_dev26 c, k0_dev26_lt c⟩
  | 11 => ⟨k0_dev27 c, k0_dev27_lt c⟩
  | 12 => ⟨k0_dev28 c, k0_dev28_lt c⟩
  | 13 => ⟨k0_dev29 c, k0_dev29_lt c⟩
  | 14 => ⟨k0_dev30 c, k0_dev30_lt c⟩
/-- The devices addressed by the second exchange. -/
def devG (c : Dev nD) : Fin 15 → Dev nD
  | 0 => ⟨k0_dev31 c, k0_dev31_lt c⟩
  | 1 => ⟨k0_dev32 c, k0_dev32_lt c⟩
  | 2 => ⟨k0_dev33 c, k0_dev33_lt c⟩
  | 3 => ⟨k0_dev34 c, k0_dev34_lt c⟩
  | 4 => ⟨k0_dev35 c, k0_dev35_lt c⟩
  | 5 => ⟨k0_dev36 c, k0_dev36_lt c⟩
  | 6 => ⟨k0_dev37 c, k0_dev37_lt c⟩
  | 7 => ⟨k0_dev38 c, k0_dev38_lt c⟩
  | 8 => ⟨k0_dev39 c, k0_dev39_lt c⟩
  | 9 => ⟨k0_dev40 c, k0_dev40_lt c⟩
  | 10 => ⟨k0_dev41 c, k0_dev41_lt c⟩
  | 11 => ⟨k0_dev42 c, k0_dev42_lt c⟩
  | 12 => ⟨k0_dev43 c, k0_dev43_lt c⟩
  | 13 => ⟨k0_dev44 c, k0_dev44_lt c⟩
  | 14 => ⟨k0_dev45 c, k0_dev45_lt c⟩

/-! ## The phases -/

/-- The entry signals, one to every peer. -/
def signals (c : Dev nD) (l : List (Fin 15)) (k : P F PUnit) : P F PUnit :=
  l.foldr (fun r p => .op (.semSignal (devB c r, Proc.tc) barSem ((1 : ℕ) : ℤ)) fun _ => p) k

/-- The first exchange: block t of the partial sums goes to device t. -/
def sendsR (c : Dev nD) (l : List (Fin 15)) (k : P F PUnit) : P F PUnit :=
  l.foldr (fun r p => .op (.enqueueDma (rows c r) (.remote (Dev.tc (devR c r)) (slot rM r.rev.succ) (.dma (semOf cc0_scratch6 r.succ))) (.dma (semOf cc0_scratch7 r.rev.succ))
    ((Memref.isWhole_whole _).wordExact_slice rfl _ (k0_off1_wordsbf16 c r)) (((Memref.isWhole_whole _).wordExact_slice rfl _ (words16 _)).reshape _ _) ⟨⟨rfl, Or.inl rfl⟩, trivial⟩) fun _ => p) k

/-- The second exchange: the reduced block goes to every peer. -/
def sendsG (c : Dev nD) (l : List (Fin 15)) (k : P F PUnit) : P F PUnit :=
  l.foldr (fun r p => .op (.enqueueDma (slot gM 0) (.remote (Dev.tc (devG c r)) (slot gM r.rev.succ) (.dma (semOf cc0_scratch8 r.succ))) (.dma (semOf cc0_scratch9 r.rev.succ))
    (((Memref.isWhole_whole _).wordExact_slice rfl _ (words16 _)).reshape _ _) (((Memref.isWhole_whole _).wordExact_slice rfl _ (words16 _)).reshape _ _) ⟨⟨rfl, Or.inl rfl⟩, trivial⟩) fun _ => p) k

/-- The waits for the blocks of the first exchange. -/
def waitsR (l : List (Fin 15)) (k : P F PUnit) : P F PUnit :=
  l.foldr (fun r p => .op (.waitDma2 (semOf cc0_scratch7 r.succ) (slot rM r.succ) (slot rM r.succ)
    (((Memref.isWhole_whole _).wordExact_slice rfl _ (words16 _)).reshape _ _) (((Memref.isWhole_whole _).wordExact_slice rfl _ (words16 _)).reshape _ _)) fun _ => p) k

/-- A block received in the second exchange, as it goes into the result. -/
def widen (v : Vec F S1x16x1024 .bf16) : FVec F S1x16x1024 .f32 := k0_pay24 v

/-- The wait for one block of the second exchange, and the block put into the result. -/
def arrive (c : Dev nD) (r : Fin 15) (p : P F PUnit) : P F PUnit :=
  .op (.waitDma2 (semOf cc0_scratch9 r.succ) (slot gM r.succ) (slot gM r.succ)
    (((Memref.isWhole_whole _).wordExact_slice rfl _ (words16 _)).reshape _ _) (((Memref.isWhole_whole _).wordExact_slice rfl _ (words16 _)).reshape _ _)) fun _ =>
  .op (.load gM (slotR r.succ).toLoadRect (View.loadsAt_vmem h_S1x16x1024)) fun v =>
  .op (.load oM (outR c r).toLoadRect (View.loadsAt_vmem h_S1x16x1024)) fun _ =>
  .op (.store oM (outR c r) (widen v) Finset.univ (View.stores_vmem_bits_univ h_S1x16x1024 rfl) (.inl rfl)) fun _ => p

/-- The waits for the blocks of the second exchange, each block put into the result as it arrives. -/
def waitsG (c : Dev nD) (l : List (Fin 15)) (k : P F PUnit) : P F PUnit :=
  l.foldr (fun r p => arrive c r p) k

/-- The waits for a device's own copies of the first exchange to have left. -/
def drainR (c : Dev nD) (l : List (Fin 15)) (k : P F PUnit) : P F PUnit :=
  l.foldr (fun r p => .op (.waitDma2 (semOf cc0_scratch6 r.succ) (slot rM r.rev.succ) (rows c r)
    (((Memref.isWhole_whole _).wordExact_slice rfl _ (words16 _)).reshape _ _) ((Memref.isWhole_whole _).wordExact_slice rfl _ (k0_off1_wordsbf16 c r))) fun _ => p) k

/-- The waits for a device's own copies of the second exchange to have left. -/
def drainG (l : List (Fin 15)) (k : P F PUnit) : P F PUnit :=
  l.foldr (fun r p => .op (.waitDma2 (semOf cc0_scratch8 r.succ) (slot gM r.rev.succ) (slot gM 0)
    (((Memref.isWhole_whole _).wordExact_slice rfl _ (words16 _)).reshape _ _) (((Memref.isWhole_whole _).wordExact_slice rfl _ (words16 _)).reshape _ _)) fun _ => p) k

/-- The reduction of the sixteen partial blocks of a device's own rows. -/
def reduce (c : Dev nD) (k : P F PUnit) : P F PUnit :=
  .op (.load oM (mineR c).toLoadRect (View.loadsAt_vmem h_S1x16x1024)) fun v767 =>
  .op (.load rM (Rect.unit (s := S16x16x1024) ![1, 0, 0] S15x16x1024.size inb_S16x16x1024_S15x16x1024_1_0_0).toLoadRect (View.loadsAt_vmem h_S15x16x1024)) fun v769 =>
  .op (.load oM (mineR c).toLoadRect (View.loadsAt_vmem h_S1x16x1024)) fun _ =>
  .op (.store oM (mineR c) (k0_pay22 v767 v769) Finset.univ
    (View.stores_vmem_bits_univ h_S1x16x1024 rfl) (.inl rfl)) fun _ =>
  .op (.load oM (mineR c).toLoadRect (View.loadsAt_vmem h_S1x16x1024)) fun v778 =>
  .op (.load gM (slotR 0).toLoadRect (View.loadsAt_vmem h_S1x16x1024)) fun _ =>
  .op (.store gM (slotR 0) (k0_pay23 v778) Finset.univ
    (View.stores_vmem h_S1x16x1024 ((Memref.isWhole_whole _).storeExact_slice rfl _ packedbf16_S16x16x1024_S1x16x1024_0_0_0) (fun _ => rfl)) (.inl rfl)) fun _ => k

/-- The eight heads of a device: the values read by the copies, the attention of each, their projections summed into the result buffer, and that sum read back. -/
def heads (v72 : FVec F S1024x1024 .bf16) (v76 : FVec F S256x1024 .bf16) : P F (FVec F S256x1024 .f32) := do
  let v77 ← k0_part4 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 (Scalar.ofBits .bf16 0x3F80#16)
  let ⟨v124, v127⟩ : Σ' (v124 : FVec F S256x128 .f32), FVec F S256x128 .f32 ← k0_part5 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v76 v77
  k0_part6 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v72 v124 v127
  k0_part7 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v72 v76 v77
  let v207 : FVec F S256x4096 .bf16 ← k0_part8 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v76
  k0_part9 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v72 v77 v207
  let v255 : FVec F S256x4096 .bf16 ← k0_part10 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v76
  k0_part11 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v72 v77 v255
  let v320 : FVec F S256x1024 .f32 ← k0_part12 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v72 v76 v77
  k0_part13 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v320
  k0_part14 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v72 v76 v77
  let v399 : FVec F S256x4096 .bf16 ← k0_part15 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v76
  let v429 : FVec F S256x128 .bf16 ← k0_part16 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v72 v76 v77 v399
  k0_part17 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 v72 v77 v429

/-- A device's own part before any exchange: its operands read, the heads, the partial sums kept narrow for sending. -/
def own : P F PUnit := do
  let v64 ← Prog.lift (.load xM (Rect.unit (s := S1x256x1024) ![0, 0, 0] S1x256x1024.size inb_S1x256x1024_S1x256x1024_0_0_0).toLoadRect (View.loadsAt_vmem h_S1x256x1024))
  let v67 ← Prog.lift (.load wqM (Rect.unit (s := S1024x1024) ![0, 0] S1024x1024.size inb_S1024x1024_S1024x1024_0_0).toLoadRect (View.loadsAt_vmem h_S1024x1024))
  let v70 ← Prog.lift (.load woM (Rect.unit (s := S1024x1024) ![0, 0] S1024x1024.size inb_S1024x1024_S1024x1024_0_0).toLoadRect (View.loadsAt_vmem h_S1024x1024))
  let v460 ← heads (k0_pay1 v70) (k0_pay2 v64 v67)
  let _ ← Prog.lift (.load pM (Rect.unit (s := S256x1024) ![0, 0] S256x1024.size inb_S256x1024_S256x1024_0_0).toLoadRect (View.loadsAt_vmem h_S256x1024))
  Prog.lift (.store pM (Rect.unit (s := S256x1024) ![0, 0] S256x1024.size inb_S256x1024_S256x1024_0_0) (k0_pay21 v460) Finset.univ
    (View.stores_vmem h_S256x1024 ((Memref.isWhole_whole _).storeExact_slice rfl _ packedbf16_S256x1024_S256x1024_0_0) (fun _ => rfl)) (.inl rfl))

/-- What follows a device's own part. -/
def exchange (c : Dev nD) : P F PUnit :=
  .op (.semWait barSem ((15 : ℕ) : ℤ)) fun _ => sendsR c rs (waitsR rs (reduce c (sendsG c rs (waitsG c rs (drainR c rs (drainG rs (.ret ⟨⟩)))))))

/-- The body by its phases. -/
def shape : P F PUnit := .op .deviceId fun c => signals c rs (own.bind fun _ => exchange c)

set_option maxRecDepth 100000 in
/-- The printed body is the body by its phases. -/
theorem body_shape : cc0_body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cc0_scratch2 pM (Memref.isWhole_whole _) rM (Memref.isWhole_whole _) gM (Memref.isWhole_whole _) cc0_scratch6 cc0_scratch7 cc0_scratch8 cc0_scratch9 = shape := by
  rw [cc0_body_eq_skeleton]
  with_unfolding_all rfl

end Cert.KernelIdeal.Mesh

end
-- ==== Proof.Proto.lean ====
module

public import proofs.«01_k».proof.Proof.Gen.KernelIdeal
public import proofs.«01_k».proof.Proof.Gen.KernelIdeal.Launch
public import proofs.«01_k».proof.Proof.Shape
public import Idealize.ShloMosaic.Lib.Pipeline.Launch
public import Idealize.ShloMosaic.Lib.Pipeline.Kit
public import Idealize.ShloMosaic.Lib.Tactic

/-!
# The protocol of the exchange

Sixteen devices, each with fifteen peers: the peer at distance r + 1. A device has 61 cells: its barrier, and for each distance the
arrival and the departure of a block in each of the two exchanges.

* Barrier of c, duty r: paid by the peer at r, which hands over the slot of its two exchange buffers that c will write.
* Arrival of the first exchange at r: slot r + 1 of the first buffer holds the rows that the peer at r keeps for c.
* Arrival of the second exchange at r: slot r + 1 of the second buffer holds the block that the peer at r reduced.
* Departures: the source comes back.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts

variable {F : FTy → Type} [FloatOps F] [Named F]

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Peers -/

set_option backward.proofsInPublic true in
/-- The device at distance r + 1 after c. -/
def peer (c : Dev nD) (r : Fin 15) : Dev nD := ⟨(c.val + r.val + 1) % 16, Nat.mod_lt _ (by decide)⟩

theorem peer_rev : ∀ (c : Dev nD) (r : Fin 15), peer (peer c r) r.rev = c := by decide +kernel
theorem peer_rev' : ∀ (c : Dev nD) (r : Fin 15), peer (peer c r.rev) r = c := by decide +kernel
theorem devB_eq : ∀ (c : Dev nD) (r : Fin 15), devB c r = peer c r := by decide +kernel
theorem devR_eq : ∀ (c : Dev nD) (r : Fin 15), devR c r = peer c r := by decide +kernel
theorem devG_eq : ∀ (c : Dev nD) (r : Fin 15), devG c r = peer c r := by decide +kernel

/-- A device and a distance, seen from the other end. -/
def flip : Dev nD × Fin 15 ≃ Dev nD × Fin 15 :=
  ⟨fun x => (peer x.1 x.2, x.2.rev), fun x => (peer x.1 x.2, x.2.rev), fun x => by simp [peer_rev], fun x => by simp [peer_rev]⟩

/-! ## Cells -/

/-- The four families of semaphores: departures and arrivals of the first exchange, then of the second. -/
abbrev fam : Fin 4 → DmaSems sig S16
  | 0 => cc0_scratch6
  | 1 => cc0_scratch7
  | 2 => cc0_scratch8
  | 3 => cc0_scratch9

/-- A cell of a device: its barrier, or the semaphore of a family at a distance. -/
abbrev Cell : Type := Option (Fin 4 × Fin 15)
abbrev csem : Cell → SemLoc sig
  | none => .reg barSem
  | some (f, r) => .dma (semOf (fam f) r.succ)
abbrev cell (c : Dev nD) (j : Cell) : GSem nD τ sig := ((c : Thread nD τ), csem j)
abbrev bar (c : Dev nD) : GSem nD τ sig := cell c none
abbrev at_ (f : Fin 4) (c : Dev nD) (r : Fin 15) : GSem nD τ sig := cell c (some (f, r))

theorem dma_inj : ∀ (f f' : Fin 4) (r r' : Fin 15), semOf (fam f) r.succ = semOf (fam f') r'.succ → f = f' ∧ r = r' := by decide +kernel

theorem csem_inj : Function.Injective csem := by
  rintro (_ | ⟨f, r⟩) (_ | ⟨f', r'⟩) h
  · rfl
  · cases h
  · cases h
  · obtain ⟨rfl, rfl⟩ := dma_inj f f' r r' (SemLoc.dma.inj h); rfl

theorem cell_inj : Function.Injective (fun x : Dev nD × Cell => cell x.1 x.2) := by
  rintro ⟨c, j⟩ ⟨c', j'⟩ h
  have h1 : c = c' := by have := congrArg (fun g : GSem nD τ sig => g.1.1) h; exact this
  subst h1
  have h2 : j = j' := csem_inj (congrArg (fun g : GSem nD τ sig => g.2) h)
  subst h2; rfl

open Classical in
/-- Which cell a semaphore is. -/
def decode (s : SemLoc sig) : Option Cell := if h : ∃ j, csem j = s then some h.choose else none

theorem decode_csem (j : Cell) : decode (csem j) = some j := by
  unfold decode
  have h : ∃ j', csem j' = csem j := ⟨j, rfl⟩
  rw [dif_pos h, csem_inj h.choose_spec]

/-- The credit of one block. -/
abbrev N : ℕ := (slot rM 0).view.dmaCredit
theorem N_pos : 0 < N := View.dmaCredit_pos _ (by decide)

/-! ## Contents -/

/-- A block with its leading axis of one dropped. -/
def flat (v : Vec F S1x16x1024 .bf16) : S16x1024.Idx → Elt F .bf16 :=
  fun i => v (Shape.reshapeEquiv squeezes_S1x16x1024_S16x1024.numel_eq i)

theorem flat_inj {v w : Vec F S1x16x1024 .bf16} (h : flat v = flat w) : v = w := by
  funext i
  have := congrFun h ((Shape.reshapeEquiv squeezes_S1x16x1024_S16x1024.numel_eq).symm i)
  simpa [flat] using this

theorem slot_read_r (k : Fin 16) (f : cc0_scratch4.ty.Contents (Elt F)) :
    (slot rM k).view.read (Elt F) f = flat (rM.view.readAt (Elt F) (slotR k).toLoadRect f) := rfl
theorem slot_read_g (k : Fin 16) (f : cc0_scratch5.ty.Contents (Elt F)) :
    (slot gM k).view.read (Elt F) f = flat (gM.view.readAt (Elt F) (slotR k).toLoadRect f) := rfl

variable (PB : Dev nD → cc0_scratch3.ty.Contents (Elt F)) (GB : Dev nD → Vec F S1x16x1024 .bf16)

/-- The rows that device c keeps for its peer at r. -/
def rowsOf (c : Dev nD) (r : Fin 15) : S16x1024.Idx → Elt F .bf16 := (rows c r).view.read (Elt F) (PB c)

/-- Slot k of the first exchange buffer of a device, of the second, and the rows for a peer, at given contents. -/
def rPts (c : Dev nD) (k : Fin 16) (f : Buf (Elt F) ((slot rM k).view.loc (c : Thread nD τ))) : sProp 𝕄 :=
  (slot rM k).view.loc (c : Thread nD τ) ↦[(slot rM k).view.set]{fullShare} f
@[inherit_doc rPts] def gPts (q : PosShare TreeShare) (c : Dev nD) (k : Fin 16) (f : Buf (Elt F) ((slot gM k).view.loc (c : Thread nD τ))) : sProp 𝕄 :=
  (slot gM k).view.loc (c : Thread nD τ) ↦[(slot gM k).view.set]{q} f
@[inherit_doc rPts] def pPts (c : Dev nD) (r : Fin 15) (f : Buf (Elt F) ((rows c r).view.loc (c : Thread nD τ))) : sProp 𝕄 :=
  (rows c r).view.loc (c : Thread nD τ) ↦[(rows c r).view.set]{fullShare} f

instance rPts_storable (c : Dev nD) (k f) : BI.Storable (upEmb : UEmb _ 𝕄) (rPts (F := F) c k f) := by unfold rPts; infer_instance
instance gPts_storable (q) (c : Dev nD) (k f) : BI.Storable (upEmb : UEmb _ 𝕄) (gPts (F := F) q c k f) := by unfold gPts; infer_instance
instance pPts_storable (c : Dev nD) (r f) : BI.Storable (upEmb : UEmb _ 𝕄) (pPts (F := F) c r f) := by unfold pPts; infer_instance

/-- The share of the reduced block that the copy to the peer at r reads. -/
abbrev share (r : Fin 15) : PosShare TreeShare := Transfers.shareTok fullShare 15 r

/-- What the peer at r hands over at the barrier: the slots that c writes there. -/
def barPay (c : Dev nD) (r : Fin 15) : sProp 𝕄 :=
  iprop((∃ f, rPts (peer c r) r.rev.succ f) ∗ (∃ f, gPts fullShare (peer c r) r.rev.succ f))
/-- The four payloads of copies. -/
def copyPay : Fin 4 → Dev nD → Fin 15 → sProp 𝕄
  | 0 => fun c r => iprop(∃ f, pPts c r f)
  | 1 => fun c r => iprop(∃ f, ⌜(slot rM r.succ).view.read (Elt F) f = rowsOf PB (peer c r) r.rev⌝ ∗ rPts c r.succ f)
  | 2 => fun c r => iprop(∃ f, gPts (share r) c 0 f)
  | 3 => fun c r => iprop(∃ f, ⌜gM.view.readAt (Elt F) (slotR r.succ).toLoadRect f = GB (peer c r)⌝ ∗ gPts fullShare c r.succ f)

def payOf (c : Dev nD) (d : Fin 15) : Option Cell → sProp 𝕄
  | some none => barPay c d
  | some (some (f, r)) => copyPay PB GB f c r
  | none => iprop(emp)

instance copyPay_storable (f : Fin 4) (c : Dev nD) (r) : BI.Storable (upEmb : UEmb _ 𝕄) (copyPay (F := F) PB GB f c r) := by
  fin_cases f <;> dsimp only [copyPay] <;> infer_instance
instance payOf_storable (c : Dev nD) (d o) : BI.Storable (upEmb : UEmb _ 𝕄) (payOf (F := F) PB GB c d o) := by
  rcases o with _ | _ | ⟨f, r⟩ <;> dsimp only [payOf, barPay] <;> infer_instance

/-! ## The schedule -/

def dutiesOf : Option Cell → Finset (Fin 15)
  | some none => Finset.univ
  | some (some _) => {0}
  | none => ∅
def amountOf : Option Cell → ℕ
  | some (some _) => N
  | _ => 1

/-- One round each: a barrier has the fifteen duties of one unit, any other cell one duty of a block's credit. -/
def rd : Rounds.Schedule (GSem nD τ sig) (Fin 15) 𝕄 where
  duties g r := if r = 0 ∧ g.1.2 = .tc then dutiesOf (decode g.2) else ∅
  unitless _ := False
  amount g _ _ := amountOf (decode g.2)
  payload g _ d := payOf PB GB g.1.1 d (decode g.2)
  amount_pos g _ _ _ := by
    rcases decode g.2 with _ | _ | ⟨f, r⟩
    · exact Nat.one_pos
    · exact Nat.one_pos
    · exact N_pos

instance rd_payload_storable (g : GSem nD τ sig) (r : ℕ) (d : Fin 15) :
    BI.Storable (upEmb : UEmb _ 𝕄) ((rd (F := F) PB GB).payload g r d) := payOf_storable PB GB _ _ _

theorem duties_cell (c : Dev nD) (j : Cell) : (rd (F := F) PB GB).duties (cell c j) 0 = dutiesOf (some j) := by
  dsimp only [rd]; rw [if_pos ⟨rfl, rfl⟩, decode_csem]
theorem duties_later (g : GSem nD τ sig) : ∀ r, 1 ≤ r → (rd (F := F) PB GB).duties g r = ∅ :=
  fun r hr => by dsimp only [rd]; rw [if_neg fun h => by omega]
theorem amount_cell (c : Dev nD) (j : Cell) (d : Fin 15) : (rd (F := F) PB GB).amount (cell c j) 0 d = amountOf (some j) := by
  dsimp only [rd]; rw [decode_csem]
theorem payload_cell (c : Dev nD) (j : Cell) (d : Fin 15) : (rd (F := F) PB GB).payload (cell c j) 0 d = payOf PB GB c d (some j) := by
  dsimp only [rd]; rw [decode_csem]

theorem expect_bar (c : Dev nD) : (rd (F := F) PB GB).expect (bar c) 0 = 15 := by
  unfold Schedule.expect Schedule.amountOf
  rw [duties_cell, Finset.sum_congr rfl fun d _ => amount_cell PB GB c none d]; rfl
theorem expect_at (f : Fin 4) (c : Dev nD) (r : Fin 15) : (rd (F := F) PB GB).expect (at_ f c r) 0 = N := by
  unfold Schedule.expect Schedule.amountOf
  rw [duties_cell, Finset.sum_congr rfl fun d _ => amount_cell PB GB c (some (f, r)) d]
  exact Finset.sum_singleton _ _

theorem rest_bar (c : Dev nD) : bigSep ((rd (F := F) PB GB).duties (bar c) 0 \ ∅) (fun d => (rd (F := F) PB GB).payload (bar c) 0 d) = bigSep Finset.univ (barPay c) := by
  rw [Finset.sdiff_empty, duties_cell]
  exact bigSep_congr fun d _ => payload_cell PB GB c none d
theorem rest_at (f : Fin 4) (c : Dev nD) (r : Fin 15) :
    bigSep ((rd (F := F) PB GB).duties (at_ f c r) 0 \ ∅) (fun d => (rd (F := F) PB GB).payload (at_ f c r) 0 d) = copyPay PB GB f c r := by
  rw [Finset.sdiff_empty, duties_cell]
  exact bigSep_singleton.trans (payload_cell PB GB c (some (f, r)) 0)

/-! ## Sums and conjunctions over a list of distances -/

/-- The conjunction over a list of distances. -/
def all (l : List (Fin 15)) (Φ : Fin 15 → sProp 𝕄) : sProp 𝕄 := l.foldr (fun r q => iprop(Φ r ∗ q)) iprop(emp)

theorem all_nil (Φ : Fin 15 → sProp 𝕄) : all [] Φ = iprop(emp) := rfl
theorem all_cons (r : Fin 15) (l : List (Fin 15)) (Φ : Fin 15 → sProp 𝕄) : all (r :: l) Φ = iprop(Φ r ∗ all l Φ) := rfl

theorem bigSepL_all (Φ : Fin 15 → sProp 𝕄) : ∀ l, bigSepL l Φ = all l Φ
  | [] => rfl
  | [r] => by rw [bigSepL_singleton, all_cons, all_nil]; exact (BI.equiv_iff.mp ⟨(sep_emp (PROP := sProp 𝕄)).1, (sep_emp (PROP := sProp 𝕄)).2⟩).symm
  | r :: r' :: l => by rw [bigSepL_cons_cons, bigSepL_all Φ (r' :: l)]; rfl

theorem all_rs (Φ : Fin 15 → sProp 𝕄) : bigSep Finset.univ Φ = all rs Φ := by
  rw [bigSep_univ_eq_bigSepL rs (by decide) (by decide), bigSepL_all]

/-- What is owed over a list of distances. -/
def owed (l : List (Fin 15)) (T : Fin 15 → CellTallies nD τ sig Unit) : CellTallies nD τ sig Unit := (l.map T).sum
theorem owed_cons (r : Fin 15) (l : List (Fin 15)) (T : Fin 15 → CellTallies nD τ sig Unit) (X : CellTallies nD τ sig Unit) :
    owed (r :: l) T + X = (owed l T + X) + T r := by
  unfold owed; rw [List.map_cons, List.sum_cons]; abel
theorem owed_rs (T : Fin 15 → CellTallies nD τ sig Unit) : owed rs T = ∑ r, T r := by
  unfold owed
  rw [← List.sum_toFinset T (by decide : rs.Nodup)]; rfl

/-- A device's units at its peers' barriers, and its credits at their arrivals. -/
def tB (c : Dev nD) (r : Fin 15) : CellTallies nD τ sig Unit := tallyAt (bar (peer c r)) () 1
@[inherit_doc tB] def tC (f : Fin 4) (c : Dev nD) (r : Fin 15) : CellTallies nD τ sig Unit := tallyAt (at_ f (peer c r) r.rev) () N

/-- What a device owes at launch, and after its signals. -/
def O₁ (c : Dev nD) : CellTallies nD τ sig Unit := owed rs (tC 1 c) + (owed rs (tC 3 c) + 0)
@[inherit_doc O₁] def O₀ (c : Dev nD) : CellTallies nD τ sig Unit := owed rs (tB c) + O₁ c

def L (g : GSem nD τ sig) : Finset Unit := if g.1.2 = .tc then {()} else ∅
/-- Barriers at 1, arrivals of the first exchange at 2, of the second at 3, everything else at 0. -/
def lvOf : Option Cell → ℕ
  | some none => 1
  | some (some (1, _)) => 2
  | some (some (3, _)) => 3
  | _ => 0
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (j : Cell) : lv (cell c j) () = lvOf (some j) := by unfold lv; rw [decode_csem]

/-- A tally every entry of which sits above level n. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (j : Cell) (k : ℕ) (h : n < lvOf (some j)) : Above n (tallyAt (cell c j) () k) := fun g u hg => by
  rw [tallyAt_apply] at hg
  by_cases h' : g = cell c j ∧ u = ()
  · obtain ⟨rfl, rfl⟩ := h'; exact ⟨rfl, by rw [lv_cell]; exact h⟩
  · rw [if_neg h'] at hg; exact absurd hg (Nat.lt_irrefl 0)
theorem above_owed {n : ℕ} {T : Fin 15 → CellTallies nD τ sig Unit} (h : ∀ r, Above n (T r)) : ∀ l, Above n (owed l T)
  | [] => above_zero n
  | r :: l => by
    have := above_add (h r) (above_owed h l)
    unfold owed at *; rwa [List.map_cons, List.sum_cons]

theorem above_O₁ : ∀ c : Dev nD, Above 1 (O₁ c) := fun c =>
  above_add (above_owed (fun r => above_tally _ _ _ (show 1 < 2 by decide)) _) (above_add (above_owed (fun r => above_tally _ _ _ (show 1 < 3 by decide)) _) (above_zero _))
theorem Above.mono {n m : ℕ} {O : CellTallies nD τ sig Unit} (h : Above n O) (hm : m ≤ n) : Above m O := fun g u hg => ⟨(h g u hg).1, lt_of_le_of_lt hm (h g u hg).2⟩
theorem above_O₀ (c : Dev nD) : Above 0 (O₀ c) :=
  above_add (above_owed (fun r => above_tally _ _ _ (show 0 < 1 by decide)) _) ((above_O₁ c).mono (by decide))
theorem above_G (c : Dev nD) : Above 2 (owed rs (tC 3 c) + 0) :=
  above_add (above_owed (fun r => above_tally _ _ _ (show 2 < 3 by decide)) _) (above_zero _)

/-- A device may wait on a cell below everything it owes. -/
theorem mayWait (c : Dev nD) (sm : SemLoc sig) (n : ℕ) (h : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

end Cert.KernelIdeal.Mesh

end
-- ==== Proof.Phases.lean ====
module

public import proofs.«01_k».proof.Proof.Proto

/-!
# The phases of the exchange

Each phase is proved once for the whole list of distances, by induction over the list.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts

variable {F : FTy → Type} [FloatOps F] [Named F]

local notation "𝕄" => MT nD τ sig Unit (Elt F) ℕ UU ℕ

variable (PB : Dev nD → cc0_scratch3.ty.Contents (Elt F)) (GB : Dev nD → Vec F S1x16x1024 .bf16)

abbrev 𝒱₀ : Variants := Variants.none

/-- A run of a program by the core of device c. -/
abbrev run (c : Dev nD) (p : P F PUnit.{1}) (Q : PUnit.{1} → sProp 𝕄) : sProp 𝕄 :=
  wp frame (wpE (defs₀ (F := F)) 𝒱₀ (c : Thread nD τ) none) Set.univ p Q

/-- What device c owes, whatever it has waited for. -/
def owesE (c : Dev nD) (O : CellTallies nD τ sig Unit) : sProp 𝕄 := iprop(∃ W, owes (c : Thread nD τ) O W)

/-- Every cell's invariant, and that each has reached its round. -/
def records (K : Dev nD × Cell → ℕ) : sProp 𝕄 :=
  iprop((bigSep Finset.univ fun x : Dev nD × Cell => cellInv ER (rd PB GB) (K x) (cell x.1 x.2))
    ∗ bigSep Finset.univ fun x : Dev nD × Cell => reached ER (cell x.1 x.2) 0)

instance records_persistent (K : Dev nD × Cell → ℕ) : BI.Persistent (records PB GB K) := by unfold records; infer_instance

theorem inv_at (K : Dev nD × Cell → ℕ) (c : Dev nD) (j : Cell) :
    (bigSep Finset.univ fun x : Dev nD × Cell => (cellInv ER (rd PB GB) (K x) (cell x.1 x.2) : sProp 𝕄)) ⊢ cellInv ER (rd PB GB) (K (c, j)) (cell c j) :=
  bigSep_elim (Finset.mem_univ (c, j))
theorem reached_at (c : Dev nD) (j : Cell) :
    (bigSep Finset.univ fun x : Dev nD × Cell => (reached ER (cell x.1 x.2) 0 : sProp 𝕄)) ⊢ reached ER (cell c j) 0 :=
  bigSep_elim (Finset.mem_univ (c, j))
theorem rec_inv (K : Dev nD × Cell → ℕ) (c : Dev nD) (j : Cell) : records PB GB K ⊢ cellInv ER (rd PB GB) (K (c, j)) (cell c j) := by
  unfold records
  iintro ⟨H, -⟩
  iapply (inv_at PB GB K c j); iexact H
theorem rec_reached (K : Dev nD × Cell → ℕ) (c : Dev nD) (j : Cell) : records PB GB K ⊢ reached ER (cell c j) 0 := by
  unfold records
  iintro ⟨-, H⟩
  iapply (reached_at (F := F) c j); iexact H

variable (K : Dev nD × Cell → ℕ) (c : Dev nD) (k : P F PUnit.{1})

theorem owed_nil (T : Fin 15 → CellTallies nD τ sig Unit) (X : CellTallies nD τ sig Unit) : owed [] T + X = X := by
  unfold owed; rw [List.map_nil, List.sum_nil, zero_add]

/-! ## The entry signals -/

theorem run_signals (Ψ : PUnit.{1} → sProp 𝕄) (X : CellTallies nD τ sig Unit) : ∀ l : List (Fin 15),
    iprop(records PB GB K ∗ owesE c (owed l (tB c) + X)
      ∗ all l (fun r => iprop(dutyTok ER (bar (peer c r)) 0 r.rev ∗ (∃ f, rPts c r.succ f) ∗ (∃ f, gPts fullShare c r.succ f))))
    ⊢ iprop((owesE c X -∗ run c k Ψ) -∗ run c (signals c l k) Ψ)
  | [] => by
    rw [owed_nil]
    iintro ⟨-, HO, -⟩ Hk
    iapply Hk; iexact HO
  | r :: l => by
    rw [all_cons, owed_cons]
    show _ ⊢ iprop((owesE c X -∗ run c k Ψ) -∗ run c (.op (.semSignal (devB c r, Proc.tc) barSem ((1 : ℕ) : ℤ)) fun _ => signals c l k) Ψ)
    rw [devB_eq]
    unfold owesE
    iintro ⟨#HR, ⟨%W, HO⟩, ⟨Htok, Hr, Hg⟩, Hl⟩ Hk
    iapply (Rounds.wp_signal 𝒱₀ ER (rd PB GB) (c : Thread nD τ) none (dst := (peer c r : Thread nD τ)) (κ := K (peer c r, none))
      (d := r.rev) (by rw [duties_cell PB GB (peer c r) none]; exact Finset.mem_univ _) (amount_cell PB GB (peer c r) none r.rev) () (owed l (tB c) + X) rfl)
      $$ [HO Htok Hr Hg]
    · isplitr; · iapply (rec_inv PB GB K (peer c r) none); iexact HR
      isplitl [HO]; · iexact HO
      isplitl [Htok]; · iexact Htok
      isplitl [Hr Hg]
      · rw [payload_cell PB GB (peer c r) none]; dsimp only [payOf]; unfold barPay; rw [peer_rev, Fin.rev_rev]
        isplitl [Hr] <;> iassumption
      · iapply (rec_reached PB GB K (peer c r) none); iexact HR
    iintro HO
    iapply (run_signals Ψ X l) $$ [HO Hl]
    · isplitr; · iexact HR
      isplitl [HO]; · unfold owesE; iexists W; iexact HO
      iexact Hl
    unfold owesE
    iexact Hk

/-! ## The copies out -/

theorem run_sendsR (Ψ : PUnit.{1} → sProp 𝕄) (X : CellTallies nD τ sig Unit) : ∀ l : List (Fin 15),
    iprop(records PB GB K ∗ owesE c (owed l (tC 1 c) + X)
      ∗ all l (fun r => iprop(dutyTok ER (at_ 0 c r) 0 0 ∗ dutyTok ER (at_ 1 (peer c r) r.rev) 0 0 ∗ pPts c r (PB c) ∗ (∃ f, rPts (peer c r) r.rev.succ f))))
    ⊢ iprop(((all l (fun r => cred (tallyAt (at_ 0 c r) () N)) ∗ owesE c X) -∗ run c k Ψ) -∗ run c (sendsR c l k) Ψ)
  | [] => by
    rw [owed_nil, all_nil, all_nil]
    iintro ⟨-, HO, -⟩ Hk
    iapply Hk
    isplitr; · iempintro
    iexact HO
  | r :: l => by
    rw [all_cons, all_cons, owed_cons]
    show _ ⊢ iprop(_ -∗ run c (.op (.enqueueDma (rows c r) (.remote (Dev.tc (devR c r)) (slot rM r.rev.succ) (.dma (semOf cc0_scratch6 r.succ))) (.dma (semOf cc0_scratch7 r.rev.succ))
      ((Memref.isWhole_whole _).wordExact_slice rfl _ (k0_off1_wordsbf16 c r)) (((Memref.isWhole_whole _).wordExact_slice rfl _ (words16 _)).reshape _ _) ⟨⟨rfl, Or.inl rfl⟩, trivial⟩) fun _ => sendsR c l k) Ψ)
    rw [devR_eq]
    unfold owesE
    iintro ⟨#HR, ⟨%W, HO⟩, ⟨Ht0, Ht1, Hp, ⟨%fd, Hr⟩⟩, Hl⟩ Hk
    unfold pPts rPts
    iapply (Rounds.wp_send_pointsTo 𝒱₀ ER (rd PB GB) (c : Thread nD τ) none (κ₁ := K (c, some (0, r))) (κ₂ := K (peer c r, some (1, r.rev)))
      (r₁ := 0) (r₂ := 0) (d₁ := 0) (d₂ := 0) (fd := fd)
      (by rw [duties_cell PB GB c (some (0, r))]; exact Finset.mem_singleton_self _) (by rw [duties_cell PB GB (peer c r) (some (1, r.rev))]; exact Finset.mem_singleton_self _)
      () () N rfl (amount_cell PB GB c (some (0, r)) 0) (amount_cell PB GB (peer c r) (some (1, r.rev)) 0) (owed l (tC 1 c) + X) rfl (W := W)
      (by rw [payload_cell PB GB c (some (0, r)) 0]; dsimp only [payOf, copyPay]; iintro H; iexists (PB c); unfold pPts; iexact H)
      (by rw [payload_cell PB GB (peer c r) (some (1, r.rev)) 0]; dsimp only [payOf, copyPay]; unfold rPts; iintro H; iexists ((slot rM r.rev.succ).view.write (Elt F) fd ((rows c r).view.read (Elt F) (PB c)) Finset.univ)
          isplitr
          · ipureintro
            rw [peer_rev, Fin.rev_rev]
            exact View.read_write_univ _ _
          · iexact H)) $$ [HO Ht0 Ht1 Hp Hr]
    · isplitr; · iapply (rec_inv PB GB K c (some (0, r))); iexact HR
      isplitr; · iapply (rec_inv PB GB K (peer c r) (some (1, r.rev))); iexact HR
      isplitl [Hp]; · iexact Hp
      isplitl [Hr]; · iexact Hr
      isplitl [HO]; · iexact HO
      isplitl [Ht0]; · iexact Ht0
      isplitr; · iapply (rec_reached PB GB K c (some (0, r))); iexact HR
      isplitl [Ht1]; · iexact Ht1
      iapply (rec_reached PB GB K (peer c r) (some (1, r.rev))); iexact HR
    iintro ⟨Hc, HO⟩
    iapply (run_sendsR Ψ X l) $$ [HO Hl]
    · isplitr; · iexact HR
      isplitl [HO]; · unfold owesE; iexists W; iexact HO
      unfold pPts rPts; iexact Hl
    iintro ⟨Hcs, HO⟩
    iapply Hk
    isplitl [Hc Hcs]
    · isplitl [Hc] <;> iassumption
    unfold owesE; iexact HO

theorem run_sendsG (Ψ : PUnit.{1} → sProp 𝕄) (X : CellTallies nD τ sig Unit) (f : cc0_scratch5.ty.Contents (Elt F)) (hf : gM.view.readAt (Elt F) (slotR 0).toLoadRect f = GB c) : ∀ l : List (Fin 15),
    iprop(records PB GB K ∗ owesE c (owed l (tC 3 c) + X)
      ∗ all l (fun r => iprop(dutyTok ER (at_ 2 c r) 0 0 ∗ dutyTok ER (at_ 3 (peer c r) r.rev) 0 0 ∗ gPts (share r) c 0 f ∗ (∃ f, gPts fullShare (peer c r) r.rev.succ f))))
    ⊢ iprop(((all l (fun r => cred (tallyAt (at_ 2 c r) () N)) ∗ owesE c X) -∗ run c k Ψ) -∗ run c (sendsG c l k) Ψ)
  | [] => by
    rw [owed_nil, all_nil, all_nil]
    iintro ⟨-, HO, -⟩ Hk
    iapply Hk
    isplitr; · iempintro
    iexact HO
  | r :: l => by
    rw [all_cons, all_cons, owed_cons]
    show _ ⊢ iprop(_ -∗ run c (.op (.enqueueDma (slot gM 0) (.remote (Dev.tc (devG c r)) (slot gM r.rev.succ) (.dma (semOf cc0_scratch8 r.succ))) (.dma (semOf cc0_scratch9 r.rev.succ))
      (((Memref.isWhole_whole _).wordExact_slice rfl _ (words16 _)).reshape _ _) (((Memref.isWhole_whole _).wordExact_slice rfl _ (words16 _)).reshape _ _) ⟨⟨rfl, Or.inl rfl⟩, trivial⟩) fun _ => sendsG c l k) Ψ)
    rw [devG_eq]
    unfold owesE
    iintro ⟨#HR, ⟨%W, HO⟩, ⟨Ht0, Ht1, Hp, ⟨%fd, Hr⟩⟩, Hl⟩ Hk
    unfold gPts
    iapply (Rounds.wp_send_pointsTo 𝒱₀ ER (rd PB GB) (c : Thread nD τ) none (κ₁ := K (c, some (2, r))) (κ₂ := K (peer c r, some (3, r.rev)))
      (r₁ := 0) (r₂ := 0) (d₁ := 0) (d₂ := 0) (fd := fd)
      (by rw [duties_cell PB GB c (some (2, r))]; exact Finset.mem_singleton_self _) (by rw [duties_cell PB GB (peer c r) (some (3, r.rev))]; exact Finset.mem_singleton_self _)
      () () N rfl (amount_cell PB GB c (some (2, r)) 0) (amount_cell PB GB (peer c r) (some (3, r.rev)) 0) (owed l (tC 3 c) + X) rfl (W := W)
      (by rw [payload_cell PB GB c (some (2, r)) 0]; dsimp only [payOf, copyPay]; iintro H; iexists f; unfold gPts; iexact H)
      (by rw [payload_cell PB GB (peer c r) (some (3, r.rev)) 0]; dsimp only [payOf, copyPay]; unfold gPts; iintro H; iexists ((slot gM r.rev.succ).view.write (Elt F) fd ((slot gM 0).view.read (Elt F) f) Finset.univ)
          isplitr
          · ipureintro
            rw [peer_rev, ← hf]
            apply flat_inj
            rw [← slot_read_g, ← slot_read_g]
            exact View.read_write_univ _ _
          · iexact H)) $$ [HO Ht0 Ht1 Hp Hr]
    · isplitr; · iapply (rec_inv PB GB K c (some (2, r))); iexact HR
      isplitr; · iapply (rec_inv PB GB K (peer c r) (some (3, r.rev))); iexact HR
      isplitl [Hp]; · iexact Hp
      isplitl [Hr]; · iexact Hr
      isplitl [HO]; · iexact HO
      isplitl [Ht0]; · iexact Ht0
      isplitr; · iapply (rec_reached PB GB K c (some (2, r))); iexact HR
      isplitl [Ht1]; · iexact Ht1
      iapply (rec_reached PB GB K (peer c r) (some (3, r.rev))); iexact HR
    iintro ⟨Hc, HO⟩
    iapply (run_sendsG Ψ X f hf l) $$ [HO Hl]
    · isplitr; · iexact HR
      isplitl [HO]; · unfold owesE; iexists W; iexact HO
      unfold gPts; iexact Hl
    iintro ⟨Hcs, HO⟩
    iapply Hk
    isplitl [Hc Hcs]
    · isplitl [Hc] <;> iassumption
    unfold owesE; iexact HO

/-! ## The waits -/

/-- One wait for a copy, at a cell below everything owed: the cell's payload, and the cell at its next round. -/
theorem run_wait (Ψ : PUnit.{1} → sProp 𝕄) (f : Fin 4) (r : Fin 15) (O : CellTallies nD τ sig Unit) (n : ℕ) (hn : lvOf (some (some (f, r))) ≤ n) (hO : Above n O)
    {w : TpuEff nD τ sig (Elt F) Λ₀ .tc PUnit.{1}}
    (hw : ∀ K : PUnit.{1} → sProp 𝕄, wpE (defs₀ (F := F)) 𝒱₀ (c : Thread nD τ) none Set.univ w K = waitSpec (c : Thread nD τ) Set.univ (csem (some (f, r))) N K)
    (k : PUnit.{1} → P F PUnit.{1}) :
    iprop(records PB GB K ∗ levAts L lv ∗ owesE c O ∗ cred (tallyAt (at_ f c r) () N) ∗ atPos ER (at_ f c r) 0 ∅ 0)
    ⊢ iprop(((owesE c O ∗ atPos ER (at_ f c r) 1 ∅ 0 ∗ copyPay PB GB f c r) -∗ run c (k ⟨⟩) Ψ) -∗ run c (.op w k) Ψ) := by
  unfold owesE
  iintro ⟨#HR, #Hlev, ⟨%W, HO⟩, Hc, Hat⟩ Hk
  iapply (Rounds.wp_wait_rest_token 𝒱₀ ER (rd PB GB) (c : Thread nD τ) none (κ := K (c, some (f, r)))
      hw (Set.mem_univ _) () (O := O) (W := W) (R := 0) (m := 0) (T := ∅)
      (by rw [Nat.zero_add]; exact (expect_at PB GB f c r).symm)) $$ [Hc HO Hat]
  · isplitr; · iapply (rec_inv PB GB K c (some (f, r))); iexact HR
    isplitl [Hc]; · iexact Hc
    isplitl [HO]; · iexact HO
    isplitr; · iapply (mayWait c (csem (some (f, r))) n (by rw [lv_cell c (some (f, r))]; exact hn) O hO); iexact Hlev
    iexact Hat
  iintro ⟨HO, Hat, -, Hpay⟩
  ihave Hp := (Entails.of_eq (rest_at PB GB f c r)) $$ Hpay
  iapply Hk
  isplitl [HO]; · iexists _; iexact HO
  isplitl [Hat]; · iexact Hat
  iexact Hp

/-- The cells of a family over a list, their credits in hand; the same after the waits, with their payloads. -/
def ready (f : Fin 4) (c : Dev nD) (l : List (Fin 15)) : sProp 𝕄 := all l fun r => iprop(cred (tallyAt (at_ f c r) () N) ∗ atPos ER (at_ f c r) 0 ∅ 0)
@[inherit_doc ready] def done (f : Fin 4) (c : Dev nD) (l : List (Fin 15)) : sProp 𝕄 := all l fun r => iprop(atPos ER (at_ f c r) 1 ∅ 0 ∗ copyPay PB GB f c r)

/-- A list of waits of one family. -/
theorem run_waits (Ψ : PUnit.{1} → sProp 𝕄) (f : Fin 4) (O : CellTallies nD τ sig Unit) (n : ℕ) (hn : ∀ r, lvOf (some (some (f, r))) ≤ n) (hO : Above n O)
    (w : Fin 15 → TpuEff nD τ sig (Elt F) Λ₀ .tc PUnit.{1})
    (hw : ∀ r, ∀ K : PUnit.{1} → sProp 𝕄, wpE (defs₀ (F := F)) 𝒱₀ (c : Thread nD τ) none Set.univ (w r) K = waitSpec (c : Thread nD τ) Set.univ (csem (some (f, r))) N K) :
    ∀ l : List (Fin 15), iprop(records PB GB K ∗ levAts L lv ∗ owesE c O ∗ ready f c l)
    ⊢ iprop(((owesE c O ∗ done PB GB f c l) -∗ run c k Ψ) -∗ run c (l.foldr (fun r p => .op (w r) fun _ => p) k) Ψ)
  | [] => by
    iintro ⟨-, -, HO, -⟩ Hk
    iapply Hk
    isplitl [HO]; · iexact HO
    unfold done; rw [all_nil]; iempintro
  | r :: l => by
    unfold ready done
    rw [all_cons, all_cons]
    show _ ⊢ iprop(_ -∗ run c (.op (w r) fun _ => l.foldr (fun r p => .op (w r) fun _ => p) k) Ψ)
    iintro ⟨#HR, #Hlev, HO, ⟨Hc, Hat⟩, Hl⟩ Hk
    iapply (run_wait PB GB K c Ψ f r O n (hn r) hO (hw r)) $$ [HO Hc Hat]
    · isplitr; · iexact HR
      isplitr; · iexact Hlev
      isplitl [HO]; · iexact HO
      isplitl [Hc] <;> iassumption
    iintro ⟨HO, Hat, Hp⟩
    iapply (run_waits Ψ f O n hn hO w hw l) $$ [HO Hl]
    · isplitr; · iexact HR
      isplitr; · iexact Hlev
      isplitl [HO]; · iexact HO
      unfold ready; iexact Hl
    iintro ⟨HO, Hd⟩
    iapply Hk
    isplitl [HO]; · iexact HO
    isplitl [Hat Hp]
    · isplitl [Hat] <;> iassumption
    unfold done; iexact Hd

theorem run_waitsR (Ψ : PUnit.{1} → sProp 𝕄) : iprop(records PB GB K ∗ levAts L lv ∗ owesE c (owed rs (tC 3 c) + 0) ∗ ready 1 c rs)
    ⊢ iprop(((owesE c (owed rs (tC 3 c) + 0) ∗ done PB GB 1 c rs) -∗ run c k Ψ) -∗ run c (waitsR rs k) Ψ) :=
  run_waits PB GB K c k Ψ 1 _ 2 (fun _ => Nat.le_refl 2) (above_G c) (fun r => .waitDma2 (semOf cc0_scratch7 r.succ) (slot rM r.succ) (slot rM r.succ) (((Memref.isWhole_whole _).wordExact_slice rfl _ (words16 _)).reshape _ _) (((Memref.isWhole_whole _).wordExact_slice rfl _ (words16 _)).reshape _ _)) (fun r => wpE_waitDma2_eq 𝒱₀ (c : Thread nD τ) none Set.univ) rs

theorem run_drainR (Ψ : PUnit.{1} → sProp 𝕄) : iprop(records PB GB K ∗ levAts L lv ∗ owesE c 0 ∗ ready 0 c rs)
    ⊢ iprop(((owesE c 0 ∗ done PB GB 0 c rs) -∗ run c k Ψ) -∗ run c (drainR c rs k) Ψ) :=
  run_waits PB GB K c k Ψ 0 _ 0 (fun _ => Nat.le_refl 0) (above_zero 0) (fun r => .waitDma2 (semOf cc0_scratch6 r.succ) (slot rM r.rev.succ) (rows c r) (((Memref.isWhole_whole _).wordExact_slice rfl _ (words16 _)).reshape _ _) ((Memref.isWhole_whole _).wordExact_slice rfl _ (k0_off1_wordsbf16 c r))) (fun r => wpE_waitDma2_eq 𝒱₀ (c : Thread nD τ) none Set.univ) rs

theorem run_drainG (Ψ : PUnit.{1} → sProp 𝕄) : iprop(records PB GB K ∗ levAts L lv ∗ owesE c 0 ∗ ready 2 c rs)
    ⊢ iprop(((owesE c 0 ∗ done PB GB 2 c rs) -∗ run c k Ψ) -∗ run c (drainG rs k) Ψ) :=
  run_waits PB GB K c k Ψ 2 _ 0 (fun _ => Nat.le_refl 0) (above_zero 0) (fun r => .waitDma2 (semOf cc0_scratch8 r.succ) (slot gM r.rev.succ) (slot gM 0) (((Memref.isWhole_whole _).wordExact_slice rfl _ (words16 _)).reshape _ _) (((Memref.isWhole_whole _).wordExact_slice rfl _ (words16 _)).reshape _ _)) (fun r => wpE_waitDma2_eq 𝒱₀ (c : Thread nD τ) none Set.univ) rs

/-- The wait at the barrier: every peer's slots. -/
theorem run_barrier (Ψ : PUnit.{1} → sProp 𝕄) : iprop(records PB GB K ∗ levAts L lv ∗ owesE c (O₁ c) ∗ cred (tallyAt (bar c) () 15) ∗ atPos ER (bar c) 0 ∅ 0)
    ⊢ iprop(((owesE c (O₁ c) ∗ atPos ER (bar c) 1 ∅ 0 ∗ all rs (barPay c)) -∗ run c k Ψ) -∗ run c (.op (.semWait barSem ((15 : ℕ) : ℤ)) fun _ => k) Ψ) := by
  unfold owesE
  iintro ⟨#HR, #Hlev, ⟨%W, HO⟩, Hc, Hat⟩ Hk
  iapply (Rounds.wp_wait_rest_token 𝒱₀ ER (rd PB GB) (c : Thread nD τ) none (κ := K (c, none))
      (wpE_semWait_eq 𝒱₀ (c : Thread nD τ) none Set.univ) (Set.mem_univ _) () (O := O₁ c) (W := W) (R := 0) (m := 0) (T := ∅)
      (by rw [expect_bar PB GB c])) $$ [Hc HO Hat]
  · isplitr; · iapply (rec_inv PB GB K c none); iexact HR
    isplitl [Hc]; · iexact Hc
    isplitl [HO]; · iexact HO
    isplitr; · iapply (mayWait c (.reg barSem) 1 (by rw [lv_cell c none]; exact le_rfl) (O₁ c) (above_O₁ c)); iexact Hlev
    iexact Hat
  iintro ⟨HO, Hat, -, Hpay⟩
  ihave Hp := (Entails.of_eq ((rest_bar PB GB c).trans (all_rs _))) $$ Hpay
  iapply Hk
  isplitl [HO]; · iexists _; iexact HO
  isplitl [Hat]; · iexact Hat
  iexact Hp

end Cert.KernelIdeal.Mesh

end
-- ==== Proof.Regions.lean ====
module

public import proofs.«01_k».proof.Proof.Phases
public import Idealize.ShloMosaic.Lib.ValueIdx
public import Idealize.ShloMosaic.Lib.ValueLayout
public import Idealize.ShloMosaic.Lib.Ring.FamCut

/-!
# Where the pieces of the exchange lie

Slot k of an exchange buffer is its elements with first coordinate k; the rows for the peer at r are those whose number divided by
sixteen is that peer's. So the slots are apart, and the rows are apart.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts

variable {F : FTy → Type} [FloatOps F] [Named F]

local notation "𝕄" => MT nD τ sig Unit (Elt F) ℕ UU ℕ

theorem mem_slotR (k : Fin 16) (i : S16x16x1024.Idx) : i ∈ (slotR k).set ↔ (i 0).val = k.val := by
  rw [LoadRect.mem_set]
  have h1 : (i 1).val < 16 := (i 1).isLt
  have h2 : (i 2).val < 1024 := (i 2).isLt
  constructor
  · intro h
    obtain ⟨j, hj, e⟩ := h 0
    change j < 1 at hj
    change (i 0).val = k.val + 1 * j at e
    omega
  · intro h a
    fin_cases a
    · exact ⟨0, Nat.one_pos, by show (i 0).val = k.val + 1 * 0; omega⟩
    · exact ⟨(i 1).val, h1, by show (i 1).val = 0 + 1 * (i 1).val; omega⟩
    · exact ⟨(i 2).val, h2, by show (i 2).val = 0 + 1 * (i 2).val; omega⟩

/-- The elements of slot k, for either exchange buffer. -/
theorem mem_slot_r (k : Fin 16) (i : S16x16x1024.Idx) : i ∈ (slot rM k).view.set ↔ (i 0).val = k.val := by
  rw [← mem_slotR]
  have e : (slot rM k).view.set = (slotR k).set := (View.set_reshape _ _).trans (View.set_slice_whole _ _)
  rw [e]
@[inherit_doc mem_slot_r] theorem mem_slot_g (k : Fin 16) (i : S16x16x1024.Idx) : i ∈ (slot gM k).view.set ↔ (i 0).val = k.val := by
  rw [← mem_slotR]
  have e : (slot gM k).view.set = (slotR k).set := (View.set_reshape _ _).trans (View.set_slice_whole _ _)
  rw [e]

theorem mem_rows (c : Dev nD) (r : Fin 15) (i : S256x1024.Idx) : i ∈ (rows c r).view.set ↔ (i 0).val / 16 = (peer c r).val := by
  show i ∈ ((View.whole cc0_scratch3).slice (Rect.unit (s := S256x1024) (k0_off1 c (BitVec.ofNat 32 (1 + r.val))) S16x1024.size (k0_off1_inb c r))).set ↔ _
  rw [View.set_slice_whole, LoadRect.mem_set]
  have h0 : (i 0).val < 256 := (i 0).isLt
  have h1 : (i 1).val < 1024 := (i 1).isLt
  have e0 : k0_off1 c (BitVec.ofNat 32 (1 + r.val)) 0 = 16 * (peer c r).val := by rw [k0_off1_eq]; rfl
  have e1 : k0_off1 c (BitVec.ofNat 32 (1 + r.val)) 1 = 0 := by rw [k0_off1_eq]; rfl
  constructor
  · intro h
    obtain ⟨j, hj, e⟩ := h 0
    change j < 16 at hj
    change (i 0).val = k0_off1 c (BitVec.ofNat 32 (1 + r.val)) 0 + 1 * j at e
    rw [e0] at e; omega
  · intro h a
    fin_cases a
    · refine ⟨(i 0).val % 16, Nat.mod_lt _ (by decide), ?_⟩
      show (i 0).val = k0_off1 c (BitVec.ofNat 32 (1 + r.val)) 0 + 1 * ((i 0).val % 16)
      rw [e0]; omega
    · refine ⟨(i 1).val, h1, ?_⟩
      show (i 1).val = k0_off1 c (BitVec.ofNat 32 (1 + r.val)) 1 + 1 * (i 1).val
      rw [e1]; omega

theorem peer_inj : ∀ (c : Dev nD) (r r' : Fin 15), peer c r = peer c r' → r = r' := by decide +kernel
theorem peer_ne : ∀ (c : Dev nD) (r : Fin 15), peer c r ≠ c := by decide +kernel
theorem peer_all : ∀ (c d : Dev nD), d ≠ c → ∃ r, peer c r = d := by decide +kernel

theorem apart_r (k k' : Fin 16) (h : k ≠ k') : Disjoint (slot rM k).view.set (slot rM k').view.set :=
  Finset.disjoint_left.mpr fun i hi hi' => h (Fin.ext (((mem_slot_r k i).mp hi).symm.trans ((mem_slot_r k' i).mp hi')))
theorem apart_g (k k' : Fin 16) (h : k ≠ k') : Disjoint (slot gM k).view.set (slot gM k').view.set :=
  Finset.disjoint_left.mpr fun i hi hi' => h (Fin.ext (((mem_slot_g k i).mp hi).symm.trans ((mem_slot_g k' i).mp hi')))
theorem apart_rows (c : Dev nD) (r r' : Fin 15) (h : r ≠ r') : Disjoint (rows c r).view.set (rows c r').view.set :=
  Finset.disjoint_left.mpr fun i hi hi' => h (peer_inj c r r' (Fin.ext (((mem_rows c r i).mp hi).symm.trans ((mem_rows c r' i).mp hi'))))

/-- The slots that peers write, of either exchange buffer. -/
abbrev famR (r : Fin 15) : Finset S16x16x1024.Idx := (slot rM r.succ).view.set
@[inherit_doc famR] abbrev famG (r : Fin 15) : Finset S16x16x1024.Idx := (slot gM r.succ).view.set
abbrev famP (c : Dev nD) (r : Fin 15) : Finset S256x1024.Idx := (rows c r).view.set

theorem famR_apart (r r' : Fin 15) (h : r ≠ r') : Disjoint (famR r) (famR r') := apart_r _ _ fun e => h (Fin.succ_injective _ e)
theorem famG_apart (r r' : Fin 15) (h : r ≠ r') : Disjoint (famG r) (famG r') := apart_g _ _ fun e => h (Fin.succ_injective _ e)

/-- What the peers' slots leave of the second buffer is slot 0. -/
theorem rest_g : (Finset.univ \ Finset.univ.biUnion famG : Finset S16x16x1024.Idx) = (slot gM 0).view.set := by
  ext i
  have h0 : (i 0).val < 16 := (i 0).isLt
  rw [Finset.mem_sdiff, mem_slot_g]
  constructor
  · rintro ⟨-, h⟩
    by_contra hne
    refine h (Finset.mem_biUnion.mpr ⟨⟨(i 0).val - 1, by change (i 0).val ≠ 0 at hne; omega⟩, Finset.mem_univ _, (mem_slot_g _ i).mpr ?_⟩)
    show (i 0).val = (i 0).val - 1 + 1
    change (i 0).val ≠ 0 at hne; omega
  · intro h
    refine ⟨Finset.mem_univ _, fun h' => ?_⟩
    obtain ⟨r, -, hr⟩ := Finset.mem_biUnion.mp h'
    have := (mem_slot_g _ i).mp hr
    rw [h] at this
    exact absurd this.symm (Nat.succ_ne_zero _)

/-- The fifteen received slots of the first buffer, as the reduction reads them. -/
abbrev recvR : Rect S16x16x1024 := Rect.unit (s := S16x16x1024) ![1, 0, 0] S15x16x1024.size inb_S16x16x1024_S15x16x1024_1_0_0

theorem recv_sub : rM.view.setOn recvR.toLoadRect.set ⊆ Finset.univ.biUnion famR := by
  intro i hi
  have hi : i ∈ (rM.access recvR).set := by rw [View.set_slice]; exact hi
  rw [Finset.mem_biUnion]
  have hi : i ∈ recvR.set := by
    have h' : i ∈ ((View.whole cc0_scratch4).slice recvR).set := hi
    rwa [View.set_slice_whole] at h'
  obtain ⟨j, hj, e⟩ := (LoadRect.mem_set _).mp hi 0
  change j < 15 at hj
  change (i 0).val = 1 + 1 * j at e
  exact ⟨⟨j, hj⟩, Finset.mem_univ _, (mem_slot_r _ i).mpr (by rw [e]; show 1 + 1 * j = j + 1; omega)⟩

variable (PB : Dev nD → cc0_scratch3.ty.Contents (Elt F))

/-- What the reduction reads of the received slots. -/
def RV (c : Dev nD) : Vec F S15x16x1024 .bf16 := fun x => rowsOf PB (peer c (x 0)) (x 0).rev (ValueIdx.ix2 (x 1) (x 2))

/-- Where an element of slot k lies in the buffer. -/
theorem slot_emb (k : Fin 16) (a : Fin 16) (b : Fin 1024) :
    (slot rM k).view.emb (ValueIdx.ix2 a b) = (ValueIdx.ix3 k a b : S16x16x1024.Idx) := by
  have e : (Shape.reshapeEquiv squeezes_S1x16x1024_S16x1024.numel_eq (ValueIdx.ix2 a b) : S1x16x1024.Idx) = ValueIdx.ix3 (⟨0, Nat.one_pos⟩ : Fin 1) a b :=
    ValueIdx.reshapeEquiv_ix2_1ab squeezes_S1x16x1024_S16x1024.numel_eq a b
  show (slotR k).idx (Shape.reshapeEquiv squeezes_S1x16x1024_S16x1024.numel_eq (ValueIdx.ix2 a b)) = _
  rw [e]
  funext d
  apply Fin.ext
  fin_cases d
  · show k.val + 1 * 0 = k.val; omega
  · show 0 + 1 * a.val = a.val; omega
  · show 0 + 1 * b.val = b.val; omega

theorem read_recv (c : Dev nD) (fs : Fin 15 → cc0_scratch4.ty.Contents (Elt F)) (g : cc0_scratch4.ty.Contents (Elt F))
    (hfs : ∀ r, (slot rM r.succ).view.read (Elt F) (fs r) = rowsOf PB (peer c r) r.rev) (hg : ∀ r, ∀ i ∈ famR r, g i = fs r i) :
    rM.view.readAt (Elt F) recvR.toLoadRect g = RV PB c := by
  have key : ∀ (r : Fin 15) (a : Fin 16) (b : Fin 1024), g (recvR.idx (ValueIdx.ix3 r a b)) = rowsOf PB (peer c r) r.rev (ValueIdx.ix2 a b) := by
    intro r a b
    have e : (recvR.idx (ValueIdx.ix3 r a b) : S16x16x1024.Idx) = ValueIdx.ix3 r.succ a b := by
      funext d
      apply Fin.ext
      fin_cases d
      · show 1 + 1 * r.val = r.val + 1; omega
      · show 0 + 1 * a.val = a.val; omega
      · show 0 + 1 * b.val = b.val; omega
    rw [← hfs r, e, ← slot_emb]
    exact hg r _ (View.emb_mem_set _ _)
  funext x
  rw [ValueIdx.eq_ix3 x]
  exact key (x 0) (x 1) (x 2)

end Cert.KernelIdeal.Mesh

end
-- ==== Proof.Exchange.lean ====
module

public import proofs.«01_k».proof.Proof.Regions

/-!
# The reduction, and the second exchange's arrivals

A device adds the fifteen blocks that it received to its own rows, and sends the sum on; each block of the second exchange goes into the
result as it arrives.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts

variable {F : FTy → Type} [FloatOps F] [Named F]

local notation "𝕄" => MT nD τ sig Unit (Elt F) ℕ UU ℕ

variable (PB : Dev nD → cc0_scratch3.ty.Contents (Elt F)) (OB : Dev nD → cc0_stg3_0.ty.Contents (Elt F)) (GB : Dev nD → Vec F S1x16x1024 .bf16)

/-- The sum of the sixteen partial blocks of a device's own rows, and what it sends on. -/
def red (c : Dev nD) : FVec F S1x16x1024 .f32 := k0_pay22 (oM.view.readAt (Elt F) (mineR c).toLoadRect (OB c)) (RV PB c)
@[inherit_doc red] def GBof (c : Dev nD) : Vec F S1x16x1024 .bf16 := k0_pay23 (red PB OB c)

/-- The result buffer after the reduction, after one arrival, after a list of arrivals. -/
def oA (c : Dev nD) : cc0_stg3_0.ty.Contents (Elt F) := (oM.access (mineR c)).write (Elt F) (OB c) (red PB OB c) Finset.univ
@[inherit_doc oA] def oPut (c : Dev nD) (r : Fin 15) (o : cc0_stg3_0.ty.Contents (Elt F)) : cc0_stg3_0.ty.Contents (Elt F) :=
  (oM.access (outR c r)).write (Elt F) o (widen (GB (peer c r))) Finset.univ
@[inherit_doc oA] def oAll (c : Dev nD) (l : List (Fin 15)) (o : cc0_stg3_0.ty.Contents (Elt F)) : cc0_stg3_0.ty.Contents (Elt F) :=
  l.foldl (fun o r => oPut GB c r o) o

/-- The result buffer of device c, and the received slots of its first exchange buffer together. -/
def oPts (c : Dev nD) (o : Buf (Elt F) (oM.view.loc (c : Thread nD τ))) : sProp 𝕄 := oM.view.loc (c : Thread nD τ) ↦[Finset.univ]{fullShare} o
@[inherit_doc oPts] def rvPts (c : Dev nD) (g : Buf (Elt F) (rM.view.loc (c : Thread nD τ))) : sProp 𝕄 :=
  rM.view.loc (c : Thread nD τ) ↦[Finset.univ.biUnion famR]{fullShare} g

theorem slot0_sub (k : Fin 16) : gM.view.setOn (slotR k).toLoadRect.set ⊆ (slot gM k).view.set := by
  have e : (slot gM k).view.set = gM.view.setOn (slotR k).toLoadRect.set := (View.set_reshape _ _).trans (View.set_slice _ _)
  rw [e]
theorem slot0_acc (k : Fin 16) : (gM.access (slotR k)).setOn Finset.univ ⊆ (slot gM k).view.set := by
  have e : (slot gM k).view.set = (gM.access (slotR k)).set := View.set_reshape _ _
  rw [e]; exact View.setOn_subset_set _ _

variable (K : Dev nD × Cell → ℕ) (c : Dev nD) (k : P F PUnit.{1})

/-! ## One access -/

theorem run_loadO (Ψ : PUnit.{1} → sProp 𝕄) (R : LoadRect S1x256x1024) (hl : oM.view.LoadsAt R) (o : cc0_stg3_0.ty.Contents (Elt F))
    (k : (R.shape.Idx → Elt F .f32) → P F PUnit.{1}) :
    oPts c o ⊢ iprop((oPts c o -∗ run c (k (oM.view.readAt (Elt F) R o)) Ψ) -∗ run c (.op (.load oM R hl) k) Ψ) :=
  wp_load 𝒱₀ (c : Thread nD τ) none Set.univ (m := oM) (Finset.subset_univ _)
theorem run_storeO (Ψ : PUnit.{1} → sProp 𝕄) (R : Rect S1x256x1024) (w : R.shape.Idx → Elt F .f32) (hx : (oM.access R).Stores Finset.univ) (hm) (o : cc0_stg3_0.ty.Contents (Elt F))
    (k : PUnit.{1} → P F PUnit.{1}) :
    oPts c o ⊢ iprop((oPts c ((oM.access R).write (Elt F) o w Finset.univ) -∗ run c (k ⟨⟩) Ψ) -∗ run c (.op (.store oM R w Finset.univ hx hm) k) Ψ) :=
  wp_store (defs := defs₀ (F := F)) 𝒱₀ (c : Thread nD τ) none Set.univ (m := oM) (r := R) (w := w) (Mk := Finset.univ) (hx := hx) (hm := hm) (k := k) (S := Finset.univ) (f := o) (Finset.subset_univ _)
theorem run_loadR (Ψ : PUnit.{1} → sProp 𝕄) (hl : rM.view.LoadsAt recvR.toLoadRect) (g : cc0_scratch4.ty.Contents (Elt F)) (k : Vec F S15x16x1024 .bf16 → P F PUnit.{1}) :
    rvPts c g ⊢ iprop((rvPts c g -∗ run c (k (rM.view.readAt (Elt F) recvR.toLoadRect g)) Ψ) -∗ run c (.op (.load rM recvR.toLoadRect hl) k) Ψ) :=
  wp_load 𝒱₀ (c : Thread nD τ) none Set.univ (m := rM) recv_sub
theorem run_loadG (Ψ : PUnit.{1} → sProp 𝕄) (s : Fin 16) (hl : gM.view.LoadsAt (slotR s).toLoadRect) (f : cc0_scratch5.ty.Contents (Elt F)) (k : Vec F S1x16x1024 .bf16 → P F PUnit.{1}) :
    gPts fullShare c s f ⊢ iprop((gPts fullShare c s f -∗ run c (k (gM.view.readAt (Elt F) (slotR s).toLoadRect f)) Ψ) -∗ run c (.op (.load gM (slotR s).toLoadRect hl) k) Ψ) :=
  wp_load 𝒱₀ (c : Thread nD τ) none Set.univ (m := gM) (slot0_sub s)
theorem run_storeG (Ψ : PUnit.{1} → sProp 𝕄) (s : Fin 16) (w : Vec F S1x16x1024 .bf16) (hx : (gM.access (slotR s)).Stores Finset.univ) (hm) (f : cc0_scratch5.ty.Contents (Elt F)) (k : PUnit.{1} → P F PUnit.{1}) :
    gPts fullShare c s f ⊢ iprop((gPts fullShare c s ((gM.access (slotR s)).write (Elt F) f w Finset.univ) -∗ run c (k ⟨⟩) Ψ) -∗ run c (.op (.store gM (slotR s) w Finset.univ hx hm) k) Ψ) :=
  wp_store 𝒱₀ (c : Thread nD τ) none Set.univ (m := gM) (slot0_acc s)

theorem read_mine : oM.view.readAt (Elt F) (mineR c).toLoadRect (oA PB OB c) = red PB OB c := by
  unfold oA; rw [View.readAt_rect]; exact View.read_write_univ _ _
theorem read_slot (f : cc0_scratch5.ty.Contents (Elt F)) (w : Vec F S1x16x1024 .bf16) :
    gM.view.readAt (Elt F) (slotR 0).toLoadRect ((gM.access (slotR 0)).write (Elt F) f w Finset.univ) = w := by
  rw [View.readAt_rect]; exact View.read_write_univ _ _

/-! ## The reduction -/

theorem run_reduce (Ψ : PUnit.{1} → sProp 𝕄) (g : cc0_scratch4.ty.Contents (Elt F)) (hg : rM.view.readAt (Elt F) recvR.toLoadRect g = RV PB c) :
    iprop(oPts c (OB c) ∗ rvPts c g ∗ (∃ f, gPts fullShare c 0 f))
    ⊢ iprop(((oPts c (oA PB OB c) ∗ rvPts c g ∗ (∃ f, ⌜gM.view.readAt (Elt F) (slotR 0).toLoadRect f = GBof PB OB c⌝ ∗ gPts fullShare c 0 f)) -∗ run c k Ψ) -∗ run c (reduce c k) Ψ) := by
  unfold reduce
  iintro ⟨Ho, Hr, ⟨%f, Hg⟩⟩ Hk
  iapply (run_loadO c Ψ) $$ Ho
  iintro Ho
  iapply (run_loadR c Ψ) $$ Hr
  iintro Hr
  rw [hg]
  iapply (run_loadO c Ψ) $$ Ho
  iintro Ho
  iapply (run_storeO c Ψ (mineR c)) $$ Ho
  iintro Ho
  iapply (run_loadO c Ψ) $$ Ho
  iintro Ho
  iapply (run_loadG c Ψ 0) $$ Hg
  iintro Hg
  iapply (run_storeG c Ψ 0) $$ Hg
  iintro Hg
  iapply Hk
  isplitl [Ho]; · unfold oA red; iexact Ho
  isplitl [Hr]; · iexact Hr
  iexists _
  isplitr
  rotate_left
  · iexact Hg
  · ipureintro
    exact (read_slot _ _).trans (congrArg k0_pay23 (read_mine PB OB c))

/-- What is left of the arrivals of the second exchange once they are in the result. -/
def doneG (c : Dev nD) (l : List (Fin 15)) : sProp 𝕄 := all l fun r => iprop(atPos ER (at_ 3 c r) 1 ∅ 0 ∗ ∃ f, gPts fullShare c r.succ f)

theorem run_arrival (Ψ : PUnit.{1} → sProp 𝕄) (r : Fin 15) (k : PUnit.{1} → P F PUnit.{1}) :
    iprop(records PB GB K ∗ levAts L lv ∗ owesE c 0 ∗ cred (tallyAt (at_ 3 c r) () N) ∗ atPos ER (at_ 3 c r) 0 ∅ 0)
    ⊢ iprop(((owesE c 0 ∗ atPos ER (at_ 3 c r) 1 ∅ 0 ∗ copyPay PB GB 3 c r) -∗ run c (k ⟨⟩) Ψ)
      -∗ run c (.op (.waitDma2 (semOf cc0_scratch9 r.succ) (slot gM r.succ) (slot gM r.succ) (((Memref.isWhole_whole _).wordExact_slice rfl _ (words16 _)).reshape _ _) (((Memref.isWhole_whole _).wordExact_slice rfl _ (words16 _)).reshape _ _)) k) Ψ) :=
  run_wait PB GB K c Ψ 3 r 0 3 (Nat.le_refl 3) (above_zero 3)
    (w := .waitDma2 (semOf cc0_scratch9 r.succ) (slot gM r.succ) (slot gM r.succ) (((Memref.isWhole_whole _).wordExact_slice rfl _ (words16 _)).reshape _ _) (((Memref.isWhole_whole _).wordExact_slice rfl _ (words16 _)).reshape _ _))
    (wpE_waitDma2_eq 𝒱₀ (c : Thread nD τ) none Set.univ) k

theorem run_arrive (Ψ : PUnit.{1} → sProp 𝕄) (r : Fin 15) (o : cc0_stg3_0.ty.Contents (Elt F)) :
    iprop(records PB GB K ∗ levAts L lv ∗ owesE c 0 ∗ (cred (tallyAt (at_ 3 c r) () N) ∗ atPos ER (at_ 3 c r) 0 ∅ 0) ∗ oPts c o)
    ⊢ iprop(((owesE c 0 ∗ (atPos ER (at_ 3 c r) 1 ∅ 0 ∗ ∃ f, gPts fullShare c r.succ f) ∗ oPts c (oPut GB c r o)) -∗ run c k Ψ) -∗ run c (arrive c r k) Ψ) := by
  unfold arrive
  iintro ⟨#HR, #Hlev, HO, ⟨Hc, Hat⟩, Ho⟩ Hk
  iapply (run_arrival PB GB K c Ψ r) $$ [HO Hc Hat]
  · isplitr; · iexact HR
    isplitr; · iexact Hlev
    isplitl [HO]; · iexact HO
    isplitl [Hc] <;> iassumption
  dsimp only [copyPay]
  iintro ⟨HO, Hat, ⟨%f, %hf, Hg⟩⟩
  iapply (run_loadG c Ψ r.succ) $$ Hg
  iintro Hg
  rw [hf]
  iapply (run_loadO c Ψ) $$ Ho
  iintro Ho
  iapply (run_storeO c Ψ (outR c r)) $$ Ho
  iintro Ho
  iapply Hk
  isplitl [HO]; · iexact HO
  isplitl [Hat Hg]
  · isplitl [Hat]; · iexact Hat
    iexists f; iexact Hg
  unfold oPut; iexact Ho

theorem oAll_cons (r : Fin 15) (l : List (Fin 15)) (o : cc0_stg3_0.ty.Contents (Elt F)) : oAll GB c (r :: l) o = oAll GB c l (oPut GB c r o) := List.foldl_cons
theorem oAll_nil (o : cc0_stg3_0.ty.Contents (Elt F)) : oAll GB c [] o = o := List.foldl_nil

theorem run_waitsG (Ψ : PUnit.{1} → sProp 𝕄) : ∀ (l : List (Fin 15)) (o : cc0_stg3_0.ty.Contents (Elt F)),
    iprop(records PB GB K ∗ levAts L lv ∗ owesE c 0 ∗ ready 3 c l ∗ oPts c o)
    ⊢ iprop(((owesE c 0 ∗ doneG c l ∗ oPts c (oAll GB c l o)) -∗ run c k Ψ) -∗ run c (waitsG c l k) Ψ)
  | [], o => by
    rw [oAll_nil]
    iintro ⟨-, -, HO, -, Ho⟩ Hk
    iapply Hk
    isplitl [HO]; · iexact HO
    isplitr
    · unfold doneG; rw [all_nil]; iempintro
    · iexact Ho
  | r :: l, o => by
    unfold ready doneG
    rw [all_cons, all_cons, oAll_cons]
    show _ ⊢ iprop(_ -∗ run c (arrive c r (waitsG c l k)) Ψ)
    iintro ⟨#HR, #Hlev, HO, ⟨Hr, Hl⟩, Ho⟩ Hk
    iapply (run_arrive PB GB K c (waitsG c l k) Ψ r o) $$ [HO Hr Ho]
    · isplitr; · iexact HR
      isplitr; · iexact Hlev
      isplitl [HO]; · iexact HO
      isplitl [Hr] <;> iassumption
    iintro ⟨HO, Hd1, Ho⟩
    iapply (run_waitsG Ψ l (oPut GB c r o)) $$ [HO Hl Ho]
    · isplitr; · iexact HR
      isplitr; · iexact Hlev
      isplitl [HO]; · iexact HO
      isplitl [Hl]; · unfold ready; iexact Hl
      iexact Ho
    iintro ⟨HO, Hd, Ho⟩
    iapply Hk
    isplitl [HO]; · iexact HO
    isplitl [Hd1 Hd]
    · isplitl [Hd1]; · iexact Hd1
      unfold doneG; iexact Hd
    iexact Ho

end Cert.KernelIdeal.Mesh

end
-- ==== Proof.Memory.lean ====
module

public import proofs.«01_k».proof.Proof.Exchange

/-!
# The exchange buffers cut into their pieces and put together again
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts

variable {F : FTy → Type} [FloatOps F] [Named F]

local notation "𝕄" => MT nD τ sig Unit (Elt F) ℕ UU ℕ

variable (PB : Dev nD → cc0_scratch3.ty.Contents (Elt F)) (c : Dev nD)

/-- The buffer of the partial sums, and the two exchange buffers, whole. -/
def pAll (f : Buf (Elt F) (pM.view.loc (c : Thread nD τ))) : sProp 𝕄 := pM.view.loc (c : Thread nD τ) ↦[Finset.univ]{fullShare} f
@[inherit_doc pAll] def rAll (f : Buf (Elt F) (rM.view.loc (c : Thread nD τ))) : sProp 𝕄 := rM.view.loc (c : Thread nD τ) ↦[Finset.univ]{fullShare} f
@[inherit_doc pAll] def gAll (f : Buf (Elt F) (gM.view.loc (c : Thread nD τ))) : sProp 𝕄 := gM.view.loc (c : Thread nD τ) ↦[Finset.univ]{fullShare} f

/-- What the peers' pieces leave of the buffer of partial sums and of the first exchange buffer. -/
def pRest : sProp 𝕄 := iprop(∃ f, pM.view.loc (c : Thread nD τ) ↦[Finset.univ \ Finset.univ.biUnion (famP c)]{fullShare} f)
@[inherit_doc pRest] def rRest : sProp 𝕄 := iprop(∃ f, rM.view.loc (c : Thread nD τ) ↦[Finset.univ \ Finset.univ.biUnion famR]{fullShare} f)

theorem p_split (f : cc0_scratch3.ty.Contents (Elt F)) : pAll c f ⊢ iprop(all rs (fun r => pPts c r f) ∗ pRest c) := by
  rw [← all_rs]
  unfold pAll pRest
  iintro H
  ihave H := (Ring.fam_split (ℓ := pM.view.loc (c : Thread nD τ)) (famP c) (apart_rows c) f) $$ H
  icases H with ⟨H, Hr⟩
  isplitl [H]; · unfold pPts; iexact H
  iexists f; iexact Hr

theorem p_join (f₀ : cc0_scratch3.ty.Contents (Elt F)) : iprop(all rs (fun r => iprop(∃ f, pPts c r f)) ∗ pRest c) ⊢ (iprop(∃ f, pAll c f) : sProp 𝕄) := by
  rw [← all_rs]
  unfold pAll pRest pPts
  exact Ring.fam_join (ℓ := pM.view.loc (c : Thread nD τ)) (famP c) (apart_rows c) f₀

theorem r_split : (iprop(∃ f, rAll c f) : sProp 𝕄) ⊢ iprop(all rs (fun r => iprop(∃ f, rPts c r.succ f)) ∗ rRest c) := by
  rw [← all_rs]
  unfold rAll rRest rPts
  exact Ring.fam_split_ex (ℓ := rM.view.loc (c : Thread nD τ)) famR famR_apart

/-- The received slots together: what the reduction reads of them. -/
theorem r_collect (f₀ : cc0_scratch4.ty.Contents (Elt F)) :
    all rs (fun r => iprop(∃ f, ⌜(slot rM r.succ).view.read (Elt F) f = rowsOf PB (peer c r) r.rev⌝ ∗ rPts c r.succ f))
    ⊢ (iprop(∃ g, ⌜rM.view.readAt (Elt F) recvR.toLoadRect g = RV PB c⌝ ∗ rvPts c g) : sProp 𝕄) := by
  have : Nonempty (cc0_scratch4.ty.Contents (Elt F)) := ⟨f₀⟩
  rw [← all_rs]
  unfold rPts rvPts
  iintro H
  ihave H := (bigSep_exists_pi Finset.univ (fun (r : Fin 15) (f : cc0_scratch4.ty.Contents (Elt F)) =>
    (iprop(⌜(slot rM r.succ).view.read (Elt F) f = rowsOf PB (peer c r) r.rev⌝ ∗ rM.view.loc (c : Thread nD τ) ↦[famR r]{fullShare} f) : sProp 𝕄))) $$ H
  icases H with ⟨%fs, H⟩
  ihave H := (bigSep_pure_sep Finset.univ (fun r : Fin 15 => (slot rM r.succ).view.read (Elt F) (fs r) = rowsOf PB (peer c r) r.rev)
    (fun r => (rM.view.loc (c : Thread nD τ) ↦[famR r]{fullShare} fs r : sProp 𝕄))) $$ H
  icases H with ⟨%hfs, H⟩
  ihave H := (pointsTo_biUnion_join (ℓ := rM.view.loc (c : Thread nD τ)) Finset.univ famR fs f₀ (fun r _ r' _ h => famR_apart r r' h)) $$ H
  icases H with ⟨%g, %hg, H⟩
  iexists g
  isplitr
  · ipureintro
    exact read_recv PB c fs g (fun r => hfs r (Finset.mem_univ r)) (fun r i hi => hg r (Finset.mem_univ r) i hi)
  · iexact H

theorem r_join (g : cc0_scratch4.ty.Contents (Elt F)) : iprop(rvPts c g ∗ rRest c) ⊢ (iprop(∃ f, rAll c f) : sProp 𝕄) := by
  unfold rvPts rRest rAll
  iintro ⟨H, ⟨%f, Hr⟩⟩
  iexists _
  iapply (pointsTo_join_subset (ℓ := rM.view.loc (c : Thread nD τ)) (Finset.subset_univ (Finset.univ.biUnion famR)) (f := f) (g := g))
  isplitl [H]
  · iexact H
  · iexact Hr

theorem g_split : (iprop(∃ f, gAll c f) : sProp 𝕄) ⊢ iprop(all rs (fun r => iprop(∃ f, gPts fullShare c r.succ f)) ∗ ∃ f, gPts fullShare c 0 f) := by
  rw [← all_rs]
  unfold gAll gPts
  rw [← rest_g]
  exact Ring.fam_split_ex (ℓ := gM.view.loc (c : Thread nD τ)) famG famG_apart

theorem g_join (f₀ : cc0_scratch5.ty.Contents (Elt F)) :
    iprop(all rs (fun r => iprop(∃ f, gPts fullShare c r.succ f)) ∗ ∃ f, gPts fullShare c 0 f) ⊢ (iprop(∃ f, gAll c f) : sProp 𝕄) := by
  rw [← all_rs]
  unfold gAll gPts
  rw [← rest_g]
  exact Ring.fam_join (ℓ := gM.view.loc (c : Thread nD τ)) famG famG_apart f₀

/-- The reduced block dealt to the fifteen copies that read it. -/
theorem g_deal (f : cc0_scratch5.ty.Contents (Elt F)) :
    gPts fullShare c 0 f ⊢ (iprop(gPts (Transfers.shareDrop fullShare 15) c 0 f ∗ all rs (fun r => gPts (share r) c 0 f)) : sProp 𝕄) := by
  rw [← all_rs]
  unfold gPts
  exact Transfers.pointsTo_toks_split fullShare 15

/-- Two holders of shares of slot 0 agree on it. -/
theorem g_agree (q q' : PosShare TreeShare) (f f' : cc0_scratch5.ty.Contents (Elt F)) :
    iprop(gPts q' c 0 f' ∗ gPts q c 0 f) ⊢ (⌜∀ i ∈ (slot gM 0).view.set, f' i = f i⌝ : sProp 𝕄) := by
  unfold gPts
  refine (pointsTo_agree (ℓ := (slot gM 0).view.loc (c : Thread nD τ))).trans (Laws.pure_mono fun h i hi => ?_)
  exact (h i (Finset.mem_inter.mpr ⟨hi, hi⟩)).1

/-- The shares that come back hold what the share kept holds. -/
theorem g_same (f : cc0_scratch5.ty.Contents (Elt F)) (q : PosShare TreeShare) : ∀ l : List (Fin 15),
    iprop(gPts q c 0 f ∗ all l (fun r => iprop(∃ f, gPts (share r) c 0 f))) ⊢ (iprop(gPts q c 0 f ∗ all l (fun r => gPts (share r) c 0 f)) : sProp 𝕄)
  | [] => Entails.refl
  | r :: l => by
    rw [all_cons, all_cons]
    iintro ⟨Hd, ⟨%f', Hr⟩, Hl⟩
    ihave %h := (g_agree c q (share r) f f') $$ [Hr Hd]
    · isplitl [Hr]
      · iexact Hr
      · iexact Hd
    ihave H := (g_same f q l) $$ [Hd Hl]
    · isplitl [Hd]
      · iexact Hd
      · iexact Hl
    icases H with ⟨Hd, Hl⟩
    isplitl [Hd]; · iexact Hd
    isplitl [Hr]
    · have e : (gPts (share r) c 0 f' : sProp 𝕄) = gPts (share r) c 0 f := by unfold gPts; exact pointsTo_congr h
      rw [← e]; iexact Hr
    · iexact Hl

theorem g_gather (f : cc0_scratch5.ty.Contents (Elt F)) :
    iprop(gPts (Transfers.shareDrop fullShare 15) c 0 f ∗ all rs (fun r => iprop(∃ f, gPts (share r) c 0 f))) ⊢ (iprop(∃ f, gPts fullShare c 0 f) : sProp 𝕄) := by
  refine (g_same c f _ rs).trans ?_
  rw [← all_rs]
  unfold gPts
  iintro H
  iexists f
  iapply (Transfers.pointsTo_toks_join (ℓ := (slot gM 0).view.loc (c : Thread nD τ)) fullShare 15)
  iexact H

/-- One conjunction over the distances, of two. -/
theorem all_sep (Φ Ψ : Fin 15 → sProp 𝕄) : all rs (fun r => iprop(Φ r ∗ Ψ r)) = iprop(all rs Φ ∗ all rs Ψ) := by
  rw [← all_rs, ← all_rs, ← all_rs]; exact bigSep_sep' _ _ _

/-- Four conjunctions over the distances made one. -/
theorem all_pack (A B C D : Fin 15 → sProp 𝕄) : iprop(all rs (fun r => iprop(A r ∗ B r)) ∗ all rs C ∗ all rs D) ⊢ all rs (fun r => iprop(A r ∗ B r ∗ C r ∗ D r)) := by
  rw [all_sep A, all_sep A, all_sep B, all_sep C]
  iintro ⟨⟨HA, HB⟩, HC, HD⟩
  isplitl [HA]; · iexact HA
  isplitl [HB]; · iexact HB
  isplitl [HC] <;> iassumption

theorem bar_split : (all rs (barPay c) : sProp 𝕄) = iprop(all rs (fun r => iprop(∃ f, rPts (peer c r) r.rev.succ f)) ∗ all rs (fun r => iprop(∃ f, gPts fullShare (peer c r) r.rev.succ f))) :=
  all_sep _ _

theorem all_mono {Φ Ψ : Fin 15 → sProp 𝕄} (h : ∀ r, Φ r ⊢ Ψ r) : all rs Φ ⊢ all rs Ψ := by
  rw [← all_rs, ← all_rs]; exact bigSep_mono fun r _ => h r

/-! ## The exchange -/

variable (OB : Dev nD → cc0_stg3_0.ty.Contents (Elt F))

/-- The result buffer at the end. -/
def OF : cc0_stg3_0.ty.Contents (Elt F) := oAll (GBof PB OB) c rs (oA PB OB c)

/-- The tokens of the duties that a device pays by its copies to the peer at r. -/
def toks (c : Dev nD) (r : Fin 15) : sProp 𝕄 :=
  iprop((dutyTok ER (at_ 0 c r) 0 0 ∗ dutyTok ER (at_ 1 (peer c r) r.rev) 0 0) ∗ (dutyTok ER (at_ 2 c r) 0 0 ∗ dutyTok ER (at_ 3 (peer c r) r.rev) 0 0))
/-- The cells of a family, at round n. -/
def cellsAt (f : Fin 4) (n : ℕ) (c : Dev nD) : sProp 𝕄 := all rs fun r => atPos ER (at_ f c r) n ∅ 0
/-- The credits of a family of arrivals. -/
def creds (f : Fin 4) (c : Dev nD) : sProp 𝕄 := all rs fun r => cred (tallyAt (at_ f c r) () N)

theorem ready_eq (f : Fin 4) (c : Dev nD) : (iprop(creds f c ∗ cellsAt f 0 c) : sProp 𝕄) = ready f c rs := by
  unfold creds cellsAt ready; rw [all_sep]
theorem done_eq (GB : Dev nD → Vec F S1x16x1024 .bf16) (f : Fin 4) (c : Dev nD) : (done PB GB f c rs : sProp 𝕄) = iprop(cellsAt f 1 c ∗ all rs (copyPay PB GB f c)) := by
  unfold cellsAt done; rw [all_sep]
theorem done0_eq (GB : Dev nD → Vec F S1x16x1024 .bf16) (c : Dev nD) : (done PB GB 0 c rs : sProp 𝕄) = iprop(cellsAt 0 1 c ∗ all rs (fun r => iprop(∃ f, pPts c r f))) := done_eq PB GB 0 c
theorem done1_eq (GB : Dev nD → Vec F S1x16x1024 .bf16) (c : Dev nD) : (done PB GB 1 c rs : sProp 𝕄)
    = iprop(cellsAt 1 1 c ∗ all rs (fun r => iprop(∃ f, ⌜(slot rM r.succ).view.read (Elt F) f = rowsOf PB (peer c r) r.rev⌝ ∗ rPts c r.succ f))) := done_eq PB GB 1 c
theorem done2_eq (GB : Dev nD → Vec F S1x16x1024 .bf16) (c : Dev nD) : (done PB GB 2 c rs : sProp 𝕄) = iprop(cellsAt 2 1 c ∗ all rs (fun r => iprop(∃ f, gPts (share r) c 0 f))) := done_eq PB GB 2 c
theorem doneG_eq (c : Dev nD) : (doneG c rs : sProp 𝕄) = iprop(cellsAt 3 1 c ∗ all rs (fun r => iprop(∃ f, gPts fullShare c r.succ f))) := by
  unfold cellsAt doneG; rw [all_sep]

theorem toks_split : (all rs (toks (F := F) c) : sProp 𝕄) = iprop(all rs (fun r => iprop(dutyTok ER (at_ 0 c r) 0 0 ∗ dutyTok ER (at_ 1 (peer c r) r.rev) 0 0))
    ∗ all rs (fun r => iprop(dutyTok ER (at_ 2 c r) 0 0 ∗ dutyTok ER (at_ 3 (peer c r) r.rev) 0 0))) :=
  all_sep _ _

/-- What the exchange needs of the cells. -/
def cellsBefore (c : Dev nD) : sProp 𝕄 :=
  iprop(cred (tallyAt (bar c) () 15) ∗ creds 1 c ∗ creds 3 c ∗ atPos ER (bar c) 0 ∅ 0 ∗ cellsAt 0 0 c ∗ cellsAt 1 0 c ∗ cellsAt 2 0 c ∗ cellsAt 3 0 c ∗ all rs (toks c))
/-- What it leaves of them. -/
def cellsAfter (c : Dev nD) : sProp 𝕄 := iprop(atPos ER (bar c) 1 ∅ 0 ∗ cellsAt 0 1 c ∗ cellsAt 1 1 c ∗ cellsAt 2 1 c ∗ cellsAt 3 1 c)

variable (K : Dev nD × Cell → ℕ)

theorem run_exchange (Ψ : PUnit.{1} → sProp 𝕄) (f₃ : cc0_scratch3.ty.Contents (Elt F)) (f₄ : cc0_scratch4.ty.Contents (Elt F)) (f₅ : cc0_scratch5.ty.Contents (Elt F)) :
    iprop(records PB (GBof PB OB) K ∗ levAts L lv ∗ owesE c (O₁ c) ∗ cellsBefore c ∗ pAll c (PB c) ∗ oPts c (OB c) ∗ rRest c ∗ (∃ f, gPts fullShare c 0 f))
    ⊢ iprop(((owesE c 0 ∗ cellsAfter c ∗ (∃ f, pAll c f) ∗ (∃ f, rAll c f) ∗ (∃ f, gAll c f) ∗ oPts c (OF PB c OB)) -∗ Ψ ⟨⟩) -∗ run c (exchange c) Ψ) := by
  unfold exchange cellsBefore cellsAfter
  iintro ⟨#HR, #Hlev, HO, ⟨Hcb, Hc1, Hc3, Hab, Ha0, Ha1, Ha2, Ha3, Ht⟩, Hp, Ho, Hrr, Hg0⟩ Hk
  iapply (run_barrier PB (GBof PB OB) K c _ Ψ) $$ [HO Hcb Hab]
  · isplitr; · iexact HR
    isplitr; · iexact Hlev
    isplitl [HO]; · iexact HO
    isplitl [Hcb] <;> iassumption
  iintro ⟨HO, Hab, Hbar⟩
  ihave Hbar := (Entails.of_eq (bar_split c)) $$ Hbar
  ihave Ht := (Entails.of_eq (toks_split c)) $$ Ht
  icases Hbar with ⟨Hr, Hg⟩
  icases Ht with ⟨Ht1, Ht3⟩
  ihave Hp := (p_split c (PB c)) $$ Hp
  icases Hp with ⟨Hp, Hpr⟩
  unfold O₁
  iapply (run_sendsR PB (GBof PB OB) K c _ Ψ) $$ [HO Ht1 Hp Hr]
  · isplitr; · iexact HR
    isplitl [HO]; · iexact HO
    iapply (all_pack (fun r => dutyTok ER (at_ 0 c r) 0 0) (fun r => dutyTok ER (at_ 1 (peer c r) r.rev) 0 0) (fun r => pPts c r (PB c)) (fun r => iprop(∃ f, rPts (peer c r) r.rev.succ f)))
    isplitl [Ht1]; · iexact Ht1
    isplitl [Hp] <;> iassumption
  iintro ⟨Hc0, HO⟩
  iapply (run_waitsR PB (GBof PB OB) K c _ Ψ) $$ [HO Hc1 Ha1]
  · isplitr; · iexact HR
    isplitr; · iexact Hlev
    isplitl [HO]; · iexact HO
    iapply (Entails.of_eq (ready_eq _ c))
    isplitl [Hc1] <;> iassumption
  iintro ⟨HO, Hd⟩
  ihave Hd := (Entails.of_eq (done1_eq PB (GBof PB OB) c)) $$ Hd
  icases Hd with ⟨Ha1, Hr⟩
  ihave Hr := (r_collect PB c f₄) $$ Hr
  icases Hr with ⟨%g, %hg, Hr⟩
  iapply (run_reduce PB OB c _ Ψ g hg) $$ [Ho Hr Hg0]
  · isplitl [Ho]; · iexact Ho
    isplitl [Hr] <;> iassumption
  iintro ⟨Ho, Hr, ⟨%f, %hf, Hg0⟩⟩
  ihave Hg0 := (g_deal c f) $$ Hg0
  icases Hg0 with ⟨Hgd, Hgs⟩
  iapply (run_sendsG PB (GBof PB OB) K c _ Ψ 0 f hf) $$ [HO Ht3 Hgs Hg]
  · isplitr; · iexact HR
    isplitl [HO]; · iexact HO
    iapply (all_pack (fun r => dutyTok ER (at_ 2 c r) 0 0) (fun r => dutyTok ER (at_ 3 (peer c r) r.rev) 0 0) (fun r => gPts (share r) c 0 f) (fun r => iprop(∃ f, gPts fullShare (peer c r) r.rev.succ f)))
    isplitl [Ht3]; · iexact Ht3
    isplitl [Hgs] <;> iassumption
  iintro ⟨Hc2, HO⟩
  iapply (run_waitsG PB (GBof PB OB) K c _ Ψ rs (oA PB OB c)) $$ [HO Hc3 Ha3 Ho]
  · isplitr; · iexact HR
    isplitr; · iexact Hlev
    isplitl [HO]; · iexact HO
    isplitl [Hc3 Ha3]
    · iapply (Entails.of_eq (ready_eq _ c))
      isplitl [Hc3] <;> iassumption
    iexact Ho
  iintro ⟨HO, Hd, Ho⟩
  ihave Hd := (Entails.of_eq (doneG_eq c)) $$ Hd
  icases Hd with ⟨Ha3, Hg⟩
  iapply (run_drainR PB (GBof PB OB) K c _ Ψ) $$ [HO Hc0 Ha0]
  · isplitr; · iexact HR
    isplitr; · iexact Hlev
    isplitl [HO]; · iexact HO
    iapply (Entails.of_eq (ready_eq _ c))
    isplitl [Hc0]
    · unfold creds; iexact Hc0
    · iexact Ha0
  iintro ⟨HO, Hd⟩
  ihave Hd := (Entails.of_eq (done0_eq PB (GBof PB OB) c)) $$ Hd
  icases Hd with ⟨Ha0, Hp⟩
  iapply (run_drainG PB (GBof PB OB) K c _ Ψ) $$ [HO Hc2 Ha2]
  · isplitr; · iexact HR
    isplitr; · iexact Hlev
    isplitl [HO]; · iexact HO
    iapply (Entails.of_eq (ready_eq _ c))
    isplitl [Hc2]
    · unfold creds; iexact Hc2
    · iexact Ha2
  iintro ⟨HO, Hd⟩
  ihave Hd := (Entails.of_eq (done2_eq PB (GBof PB OB) c)) $$ Hd
  icases Hd with ⟨Ha2, Hgs⟩
  iapply (le_wp_ret _ _ _ PUnit.unit Ψ)
  iapply Hk
  isplitl [HO]; · iexact HO
  isplitl [Hab Ha0 Ha1 Ha2 Ha3]
  · isplitl [Hab]; · iexact Hab
    isplitl [Ha0]; · iexact Ha0
    isplitl [Ha1]; · iexact Ha1
    isplitl [Ha2] <;> iassumption
  isplitl [Hp Hpr]
  · iapply (p_join c f₃)
    isplitl [Hp]
    · iexact Hp
    · iexact Hpr
  isplitl [Hr Hrr]
  · iapply (r_join c g)
    isplitl [Hr] <;> iassumption
  isplitl [Hg Hgd Hgs]
  · ihave Hg0 := (g_gather c f) $$ [Hgd Hgs]
    · isplitl [Hgd]
      · iexact Hgd
      · iexact Hgs
    iapply (g_join c f₅)
    isplitl [Hg] <;> iassumption
  unfold OF
  iexact Ho

end Cert.KernelIdeal.Mesh

end
-- ==== Proof.Own.lean ====
module

public import proofs.«01_k».proof.Proof.Memory

/-!
# A device's own part

The operands read, the heads copied in and attended, the partial sums kept: one run from the device's blocks,
which leaves the two buffers of partial sums as functions of those blocks alone.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] Cert.KernelIdeal.Gen.facts

variable {F : FTy → Type} [FloatOps F] [Named F]

local notation "𝕄" => MT nD τ sig Unit (Elt F) ℕ UU ℕ

/-! ## The copies' waits -/

theorem low_not_cell : ∀ s : DmaSem sig, s.val < 10 → ∀ (f : Fin 4) (r : Fin 15), semOf (fam f) r.succ ≠ s := by decide +kernel

theorem decode_low (s : DmaSem sig) (h : s.val < 10) : decode (.dma s) = none := by
  unfold decode
  rw [dif_neg]
  rintro ⟨_ | ⟨f, r⟩, e⟩
  · cases e
  · exact low_not_cell s h f r (SemLoc.dma.inj e)

/-- A device may wait for a copy of its own whatever arrivals it still owes its peers. -/
theorem copyWait (c : Dev nD) (s : DmaSem sig) (h : s.val < 10) :
    (levAts L lv : sProp 𝕄) ⊢ MayWait (c : Thread nD τ) (.dma s) () (O₁ c) :=
  mayWait c _ 1 (by unfold lv; rw [decode_low s h]; decide) (O₁ c) (above_O₁ c)

/-! ## The run -/

/-- A whole buffer of device c. -/
abbrev held {sp : Space} {s : Shape} {e : EltTy} (c : Dev nD) (M : Memref sig .tc sp s e) (f : Buf (Elt F) (M.view.loc (c : Thread nD τ))) : sProp 𝕄 :=
  M.view.loc (c : Thread nD τ) ↦[Finset.univ]{fullShare} f

abbrev copySem (i : Fin 6) : SemLoc sig := .dma ⟨4 + i.val, by have := i.isLt; show 4 + i.val < 74; omega⟩

/-- Slot i of a copy buffer. -/
abbrev bslot (M : Memref sig .tc .vmem S3x4096x128 .f32) (i : ℕ) (h : ∀ a, (![i, 0, 0] : Fin 3 → ℕ) a + S1x4096x128.size a ≤ S3x4096x128.size a) :
    Memref sig .tc .vmem S4096x128 .f32 :=
  (M.slice (Rect.unit (s := S3x4096x128) ![i, 0, 0] S1x4096x128.size h) (fun _ => rfl)).squeeze S4096x128 squeezes_S1x4096x128_S4096x128

/-- The elements of a view, held by device c. -/
abbrev heldV {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- The three slots of a copy buffer. -/
def slots3 (c : Dev nD) (M : Memref sig .tc .vmem S3x4096x128 .f32) (f0 f1 f2 : Buf (Elt F) (M.view.loc (c : Thread nD τ))) : sProp 𝕄 :=
  iprop(heldV c (bslot M 0 inb_S3x4096x128_S1x4096x128_0_0_0) f0 ∗ heldV c (bslot M 1 inb_S3x4096x128_S1x4096x128_1_0_0) f1
    ∗ heldV c (bslot M 2 inb_S3x4096x128_S1x4096x128_2_0_0) f2)

/-- The six semaphores of the copies, at rest. -/
def copySems (c : Dev nD) : sProp 𝕄 :=
  iprop(semVal ((c : Thread nD τ), copySem 0) 0 ∗ semVal ((c : Thread nD τ), copySem 1) 0 ∗ semVal ((c : Thread nD τ), copySem 2) 0
      ∗ semVal ((c : Thread nD τ), copySem 3) 0 ∗ semVal ((c : Thread nD τ), copySem 4) 0 ∗ semVal ((c : Thread nD τ), copySem 5) 0)

/-- The slots of a copy buffer, whatever they hold. -/
def slots (c : Dev nD) (M : Memref sig .tc .vmem S3x4096x128 .f32) : sProp 𝕄 := iprop(∃ f0 f1 f2, slots3 c M f0 f1 f2)

set_option maxRecDepth 100000 in
set_option sl_exec.squeezeSlice true in
set_option maxHeartbeats 0 in
/-- The heads, run: what they return and what they leave in the result's buffer, found by the run. -/
def headsOut (v72 : FVec F S1024x1024 .bf16) (v76 : FVec F S256x1024 .bf16) (k : kM.view.ref.ty.Contents (Elt F)) (v : vM.view.ref.ty.Contents (Elt F)) :
    { p : FVec F S256x1024 .f32 × oM.view.ref.ty.Contents (Elt F) //
      ∀ (c : Dev nD) (O : CellTallies nD τ sig Unit) (X : sProp 𝕄) (hmw : ∀ s : DmaSem sig, s.val < 10 → (X ⊢ MayWait (c : Thread nD τ) (.dma s) () O))
        (o : oM.view.ref.ty.Contents (Elt F)) (Q : FVec F S256x1024 .f32 → sProp 𝕄),
      iprop(held c kM k ∗ held c vM v ∗ held c oM o ∗ slots c kbM ∗ slots c vbM ∗ copySems c ∗ owesE c O ∗ X
        ∗ ((held c kM k ∗ held c vM v ∗ held c oM p.2 ∗ slots c kbM ∗ slots c vbM ∗ copySems c ∗ owesE c O) -∗ Q p.1))
      ⊢ wp frame (wpE (defs₀ (F := F)) 𝒱₀ (c : Thread nD τ) none) Set.univ (heads v72 v76) Q } := by
  refine ⟨(?r, ?o), fun c O X hmw o Q => ?run⟩
  case run =>
    unfold slots slots3 copySems owesE
    iintro ⟨Hk, Hv, Ho, ⟨%kb0, %kb1, %kb2, Hkb0, Hkb1, Hkb2⟩, ⟨%vb0, %vb1, %vb2, Hvb0, Hvb1, Hvb2⟩, ⟨S0, S1, S2, S3, S4, S5⟩, ⟨%W, HO⟩, HX, HQ⟩
    unfold heads
    simp -proj only [k0_part4_eq_skeleton, k0_part5_eq_skeleton, k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton, k0_part16_eq_skeleton, k0_part17_eq_skeleton]
    simp -proj only [k0_part4_skel, k0_part5_skel, k0_part6_skel, k0_part7_skel, k0_part8_skel, k0_part9_skel, k0_part10_skel, k0_part11_skel, k0_part12_skel, k0_part13_skel,
      k0_part14_skel, k0_part15_skel, k0_part16_skel, k0_part17_skel]
    sl_exec!
    rw [wp_ret]
    imodintro
    iapply HQ
    isplitl [Hk]; · iexact Hk
    isplitl [Hv]; · iexact Hv
    isplitl [Ho]; · iexact Ho
    isplitl [Hkb0 Hkb1 Hkb2]
    · iexists _, _, _
      isplitl [Hkb0]; · iexact Hkb0
      isplitl [Hkb1]; · iexact Hkb1
      iexact Hkb2
    isplitl [Hvb0 Hvb1 Hvb2]
    · iexists _, _, _
      isplitl [Hvb0]; · iexact Hvb0
      isplitl [Hvb1]; · iexact Hvb1
      iexact Hvb2
    isplitl [S0 S1 S2 S3 S4 S5]
    · isplitl [S0]; · iexact S0
      isplitl [S1]; · iexact S1
      isplitl [S2]; · iexact S2
      isplitl [S3]; · iexact S3
      isplitl [S4]; · iexact S4
      iexact S5
    iexists _; iexact HO

set_option maxRecDepth 100000 in
set_option maxHeartbeats 0 in
/-- A device's own part, run: what it leaves in the buffer of narrow partial sums and in the result's buffer. -/
def ownOut (x : xM.view.ref.ty.Contents (Elt F)) (wq : wqM.view.ref.ty.Contents (Elt F)) (wo : woM.view.ref.ty.Contents (Elt F))
    (k : kM.view.ref.ty.Contents (Elt F)) (v : vM.view.ref.ty.Contents (Elt F)) :
    { p : pM.view.ref.ty.Contents (Elt F) × oM.view.ref.ty.Contents (Elt F) //
      ∀ (c : Dev nD) (O : CellTallies nD τ sig Unit) (X : sProp 𝕄) (hmw : ∀ s : DmaSem sig, s.val < 10 → (X ⊢ MayWait (c : Thread nD τ) (.dma s) () O))
        (o : oM.view.ref.ty.Contents (Elt F)) (pb : pM.view.ref.ty.Contents (Elt F)) (Q : PUnit.{1} → sProp 𝕄),
      iprop(held c xM x ∗ held c wqM wq ∗ held c woM wo ∗ held c kM k ∗ held c vM v ∗ held c oM o ∗ held c pM pb ∗ slots c kbM ∗ slots c vbM ∗ copySems c ∗ owesE c O ∗ X
        ∗ ((held c xM x ∗ held c wqM wq ∗ held c woM wo ∗ held c kM k ∗ held c vM v ∗ held c oM p.2 ∗ held c pM p.1 ∗ slots c kbM ∗ slots c vbM ∗ copySems c ∗ owesE c O) -∗ Q ⟨⟩))
      ⊢ wp frame (wpE (defs₀ (F := F)) 𝒱₀ (c : Thread nD τ) none) Set.univ own Q } := by
  refine ⟨(?p, ?o), fun c O X hmw o pb Q => ?run⟩
  case run =>
    iintro ⟨Hx, Hwq, Hwo, Hk, Hv, Ho, Hp, Hkb, Hvb, HS, HO, HX, HQ⟩
    unfold own
    generalize hH : heads (F := F) = H
    sl_exec!
    rw [wp_bind, ← hH]
    iapply ((headsOut _ _ k v).2 c O X hmw o _)
    isplitl [Hk]; · iexact Hk
    isplitl [Hv]; · iexact Hv
    isplitl [Ho]; · iexact Ho
    isplitl [Hkb]; · iexact Hkb
    isplitl [Hvb]; · iexact Hvb
    isplitl [HS]; · iexact HS
    isplitl [HO]; · iexact HO
    isplitl [HX]; · iexact HX
    iintro ⟨Hk, Hv, Ho, Hkb, Hvb, HS, HO⟩
    sl_exec!
    rw [wp_ret]
    imodintro
    iapply HQ
    isplitl [Hx]; · iexact Hx
    isplitl [Hwq]; · iexact Hwq
    isplitl [Hwo]; · iexact Hwo
    isplitl [Hk]; · iexact Hk
    isplitl [Hv]; · iexact Hv
    isplitl [Ho]; · iexact Ho
    isplitl [Hp]; · iexact Hp
    isplitl [Hkb]; · iexact Hkb
    isplitl [Hvb]; · iexact Hvb
    isplitl [HS]; · iexact HS
    iexact HO

end Cert.KernelIdeal.Mesh

end
-- ==== Proof.Body.lean ====
module

public import proofs.«01_k».proof.Proof.Own

/-!
# The body, run on one device

The signals, the device's own part and the exchange in sequence: from the blocks of the operands to the result, every cell closed.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts

variable {F : FTy → Type} [FloatOps F] [Named F]

local notation "𝕄" => MT nD τ sig Unit (Elt F) ℕ UU ℕ

/-! ## The slots of the copy buffers -/

theorem inb3 : ∀ (i : Fin 3) a, (![i.val, 0, 0] : Fin 3 → ℕ) a + S1x4096x128.size a ≤ S3x4096x128.size a := by decide

abbrev famB (M : Memref sig .tc .vmem S3x4096x128 .f32) (i : Fin 3) := (bslot M i.val (inb3 i)).view.set

theorem apart_b3 (i j : Fin 3) (h : i ≠ j) :
    Disjoint (Rect.unit (s := S3x4096x128) ![i.val, 0, 0] S1x4096x128.size (inb3 i)).set (Rect.unit (s := S3x4096x128) ![j.val, 0, 0] S1x4096x128.size (inb3 j)).set :=
  Finset.disjoint_left.mpr fun x hi hj => by
    obtain ⟨a, ha, e⟩ := (LoadRect.mem_set _).mp hi 0
    obtain ⟨b, hb, e'⟩ := (LoadRect.mem_set _).mp hj 0
    change a < 1 at ha
    change b < 1 at hb
    change (x 0).val = i.val + 1 * a at e
    change (x 0).val = j.val + 1 * b at e'
    exact h (Fin.ext (by omega))

theorem apart_kb (i j : Fin 3) (h : i ≠ j) : Disjoint (famB kbM i) (famB kbM j) := by
  have e : ∀ i, famB kbM i = (Rect.unit (s := S3x4096x128) ![i.val, 0, 0] S1x4096x128.size (inb3 i)).set :=
    fun i => (View.set_reshape _ _).trans (View.set_slice_whole _ _)
  rw [e, e]; exact apart_b3 i j h
theorem apart_vb (i j : Fin 3) (h : i ≠ j) : Disjoint (famB vbM i) (famB vbM j) := by
  have e : ∀ i, famB vbM i = (Rect.unit (s := S3x4096x128) ![i.val, 0, 0] S1x4096x128.size (inb3 i)).set :=
    fun i => (View.set_reshape _ _).trans (View.set_slice_whole _ _)
  rw [e, e]; exact apart_b3 i j h

variable (c : Dev nD)

/-- What the slots leave of a copy buffer. -/
def bRest (M : Memref sig .tc .vmem S3x4096x128 .f32) : sProp 𝕄 :=
  iprop(∃ f, M.view.loc (c : Thread nD τ) ↦[Finset.univ \ Finset.univ.biUnion (famB M)]{fullShare} f)

theorem fin3 (Φ : Fin 3 → sProp 𝕄) : bigSep Finset.univ Φ = iprop(Φ 0 ∗ Φ 1 ∗ Φ 2) := bigSep_univ_eq_bigSepL [0, 1, 2] (by decide) (by decide) Φ

theorem slots_split (M : Memref sig .tc .vmem S3x4096x128 .f32) (hd : ∀ i j, i ≠ j → Disjoint (famB M i) (famB M j)) :
    (iprop(∃ f, held c M f) : sProp 𝕄) ⊢ iprop(slots c M ∗ bRest c M) := by
  unfold slots slots3 bRest
  iintro H
  ihave H := (Ring.fam_split_ex (ℓ := M.view.loc (c : Thread nD τ)) (famB M) hd) $$ H
  rw [fin3]
  icases H with ⟨⟨⟨%f0, H0⟩, ⟨%f1, H1⟩, ⟨%f2, H2⟩⟩, Hr⟩
  isplitl [H0 H1 H2]
  · iexists f0, f1, f2
    isplitl [H0]; · iexact H0
    isplitl [H1]; · iexact H1
    iexact H2
  · iexact Hr

theorem slots_join (M : Memref sig .tc .vmem S3x4096x128 .f32) (hd : ∀ i j, i ≠ j → Disjoint (famB M i) (famB M j)) (f₀ : Buf (Elt F) (M.view.loc (c : Thread nD τ))) :
    iprop(slots c M ∗ bRest c M) ⊢ (iprop(∃ f, held c M f) : sProp 𝕄) := by
  unfold slots slots3 bRest
  iintro ⟨⟨%f0, %f1, %f2, H0, H1, H2⟩, Hr⟩
  iapply (Ring.fam_join (ℓ := M.view.loc (c : Thread nD τ)) (famB M) hd f₀)
  rw [fin3]
  isplitr [Hr]
  · isplitl [H0]; · iexists f0; iexact H0
    isplitl [H1]; · iexists f1; iexact H1
    iexists f2; iexact H2
  · iexact Hr

/-! ## The run -/

/-- The blocks of the five operands on every device. -/
structure Blocks (F : FTy → Type) [FloatOps F] where
  x : Dev nD → xM.view.ref.ty.Contents (Elt F)
  wq : Dev nD → wqM.view.ref.ty.Contents (Elt F)
  wo : Dev nD → woM.view.ref.ty.Contents (Elt F)
  k : Dev nD → kM.view.ref.ty.Contents (Elt F)
  v : Dev nD → vM.view.ref.ty.Contents (Elt F)

variable (B : Blocks F)

/-- What a device's own part leaves: its partial sums, narrow and wide. -/
def PBs (c : Dev nD) : cc0_scratch3.ty.Contents (Elt F) := (ownOut (B.x c) (B.wq c) (B.wo c) (B.k c) (B.v c)).1.1
@[inherit_doc PBs] def OBs (c : Dev nD) : cc0_stg3_0.ty.Contents (Elt F) := (ownOut (B.x c) (B.wq c) (B.wo c) (B.k c) (B.v c)).1.2

/-- The result on device c. -/
def outOf (c : Dev nD) : cc0_stg3_0.ty.Contents (Elt F) := OF (PBs B) c (OBs B)

/-- The operands' blocks, held. -/
def operands : sProp 𝕄 := iprop(held c xM (B.x c) ∗ held c wqM (B.wq c) ∗ held c woM (B.wo c) ∗ held c kM (B.k c) ∗ held c vM (B.v c))

/-- The buffers that the body only uses. -/
def scratch : sProp 𝕄 := iprop((∃ f, held c kbM f) ∗ (∃ f, held c vbM f) ∗ (∃ f, pAll c f) ∗ (∃ f, rAll c f) ∗ (∃ f, gAll c f))

/-- The tokens of a device's duties at its peers' barriers. -/
def barToks : sProp 𝕄 := all rs fun r => dutyTok ER (bar (peer c r)) 0 r.rev

variable (K : Dev nD × Cell → ℕ)

theorem own_part (Q : PUnit.{1} → sProp 𝕄) (o : cc0_stg3_0.ty.Contents (Elt F)) (pb : cc0_scratch3.ty.Contents (Elt F)) :
    iprop(operands c B ∗ held c oM o ∗ pAll c pb ∗ slots c kbM ∗ slots c vbM ∗ copySems c ∗ owesE c (O₁ c) ∗ levAts L lv
      ∗ ((operands c B ∗ held c oM (OBs B c) ∗ pAll c (PBs B c) ∗ slots c kbM ∗ slots c vbM ∗ copySems c ∗ owesE c (O₁ c)) -∗ Q ⟨⟩))
    ⊢ wp frame (wpE (defs₀ (F := F)) 𝒱₀ (c : Thread nD τ) none) Set.univ own Q := by
  unfold operands pAll
  iintro ⟨⟨Hx, Hwq, Hwo, Hk, Hv⟩, Ho, Hp, Hkb, Hvb, HS, HO, Hlev, HQ⟩
  iapply ((ownOut (B.x c) (B.wq c) (B.wo c) (B.k c) (B.v c)).2 c (O₁ c) (levAts L lv) (copyWait c) o pb Q)
  isplitl [Hx]; · iexact Hx
  isplitl [Hwq]; · iexact Hwq
  isplitl [Hwo]; · iexact Hwo
  isplitl [Hk]; · iexact Hk
  isplitl [Hv]; · iexact Hv
  isplitl [Ho]; · iexact Ho
  isplitl [Hp]; · iexact Hp
  isplitl [Hkb]; · iexact Hkb
  isplitl [Hvb]; · iexact Hvb
  isplitl [HS]; · iexact HS
  isplitl [HO]; · iexact HO
  isplitl [Hlev]; · iexact Hlev
  iintro ⟨Hx, Hwq, Hwo, Hk, Hv, Ho, Hp, Hkb, Hvb, HS, HO⟩
  iapply HQ
  isplitl [Hx Hwq Hwo Hk Hv]
  · isplitl [Hx]; · iexact Hx
    isplitl [Hwq]; · iexact Hwq
    isplitl [Hwo]; · iexact Hwo
    isplitl [Hk] <;> iassumption
  unfold OBs PBs
  isplitl [Ho]; · iexact Ho
  isplitl [Hp]; · iexact Hp
  isplitl [Hkb]; · iexact Hkb
  isplitl [Hvb]; · iexact Hvb
  isplitl [HS] <;> iassumption

theorem bar_pack : iprop(barToks c ∗ all rs (fun r => iprop(∃ f, rPts c r.succ f)) ∗ all rs (fun r => iprop(∃ f, gPts fullShare c r.succ f)))
    ⊢ (all rs (fun r => iprop(dutyTok ER (bar (peer c r)) 0 r.rev ∗ (∃ f, rPts c r.succ f) ∗ (∃ f, gPts fullShare c r.succ f))) : sProp 𝕄) := by
  unfold barToks
  rw [all_sep, all_sep]

theorem run_id (k : Dev nD → P F PUnit.{1}) (Ψ : PUnit.{1} → sProp 𝕄) : (run c (.op .deviceId k) Ψ : sProp 𝕄) = run c (k c) Ψ := wp_deviceId 𝒱₀ (c : Thread nD τ) none Set.univ
theorem run_seq (p k : P F PUnit.{1}) (Ψ : PUnit.{1} → sProp 𝕄) : (run c (p.bind fun _ => k) Ψ : sProp 𝕄) = run c p (fun _ => run c k Ψ) :=
  wp_bind _ _ _ p (fun _ => k) Ψ

theorem run_body (Ψ : PUnit.{1} → sProp 𝕄) (o : cc0_stg3_0.ty.Contents (Elt F)) :
    iprop(records (PBs B) (GBof (PBs B) (OBs B)) K ∗ levAts L lv ∗ owesE c (O₀ c) ∗ cellsBefore c ∗ barToks c ∗ copySems c ∗ operands c B ∗ held c oM o ∗ scratch c)
    ⊢ iprop(((owesE c 0 ∗ cellsAfter c ∗ copySems c ∗ operands c B ∗ oPts c (outOf B c) ∗ scratch c) -∗ Ψ ⟨⟩) -∗ run c shape Ψ) := by
  unfold shape
  rw [run_id]
  unfold scratch
  iintro ⟨#HR, #Hlev, HO, Hcells, Htb, HS, Hops, Ho, ⟨%kb, Hkb⟩, ⟨%vb, Hvb⟩, ⟨%pb, Hp⟩, ⟨%rb, Hr⟩, ⟨%gb, Hg⟩⟩ Hk
  ihave Hr := (r_split c) $$ [Hr]
  · iexists rb; iexact Hr
  ihave Hg := (g_split c) $$ [Hg]
  · iexists gb; iexact Hg
  icases Hr with ⟨Hr, Hrr⟩
  icases Hg with ⟨Hg, Hg0⟩
  ihave Hkb := (slots_split c kbM apart_kb) $$ [Hkb]
  · iexists kb; iexact Hkb
  ihave Hvb := (slots_split c vbM apart_vb) $$ [Hvb]
  · iexists vb; iexact Hvb
  icases Hkb with ⟨Hkb, Hkbr⟩
  icases Hvb with ⟨Hvb, Hvbr⟩
  unfold O₀
  iapply (run_signals (PBs B) (GBof (PBs B) (OBs B)) K c _ Ψ (O₁ c) rs) $$ [HO Htb Hr Hg]
  · isplitr; · iexact HR
    isplitl [HO]; · iexact HO
    iapply (bar_pack c)
    isplitl [Htb]; · iexact Htb
    isplitl [Hr] <;> iassumption
  iintro HO
  rw [run_seq]
  iapply (own_part c B (fun _ => run c (exchange c) Ψ) o pb)
  isplitl [Hops]; · iexact Hops
  isplitl [Ho]; · iexact Ho
  isplitl [Hp]; · iexact Hp
  isplitl [Hkb]; · iexact Hkb
  isplitl [Hvb]; · iexact Hvb
  isplitl [HS]; · iexact HS
  isplitl [HO]; · iexact HO
  isplitr; · iexact Hlev
  iintro ⟨Hops, Ho, Hp, Hkb, Hvb, HS, HO⟩
  iapply (run_exchange (PBs B) c (OBs B) K Ψ pb rb gb) $$ [HO Hcells Hp Ho Hrr Hg0]
  · isplitr; · iexact HR
    isplitr; · iexact Hlev
    isplitl [HO]; · iexact HO
    isplitl [Hcells]; · iexact Hcells
    isplitl [Hp]; · iexact Hp
    isplitl [Ho]; · unfold oPts; iexact Ho
    isplitl [Hrr] <;> iassumption
  iintro ⟨HO, Hcells, Hp, Hr, Hg, Ho⟩
  iapply Hk
  isplitl [HO]; · iexact HO
  isplitl [Hcells]; · iexact Hcells
  isplitl [HS]; · iexact HS
  isplitl [Hops]; · iexact Hops
  isplitl [Ho]; · unfold outOf; iexact Ho
  isplitl [Hkb Hkbr]
  · iapply (slots_join c kbM apart_kb kb)
    isplitl [Hkb] <;> iassumption
  isplitl [Hvb Hvbr]
  · iapply (slots_join c vbM apart_vb vb)
    isplitl [Hvb] <;> iassumption
  isplitl [Hp]; · iexact Hp
  isplitl [Hr] <;> iassumption

/-! ## The cells closed -/

/-- The semaphores of a device's cells, at rest. -/
def cellSems : sProp 𝕄 := iprop(semVal (bar c) 0 ∗ bigSep Finset.univ fun f : Fin 4 => all rs fun r => semVal (at_ f c r) 0)

variable (PB : Dev nD → cc0_scratch3.ty.Contents (Elt F)) (GB : Dev nD → Vec F S1x16x1024 .bf16)

theorem close_cell (j : Cell) : iprop(records PB GB K ∗ atPos ER (cell c j) 1 ∅ 0) ⊢ (|={Set.univ}=> semVal (cell c j) 0 : sProp 𝕄) :=
  (sep_mono_left (rec_inv PB GB K c j)).trans
    (Rounds.cell_close ER (rd PB GB) (Set.mem_univ (K (c, j))) (fun h => h) (R := 1) (duties_later PB GB (cell c j)))

theorem close_family (f : Fin 4) : iprop(records PB GB K ∗ cellsAt f 1 c) ⊢ (|={Set.univ}=> all rs (fun r => semVal (at_ f c r) 0) : sProp 𝕄) := by
  unfold cellsAt
  rw [← all_rs, ← all_rs]
  refine (sep_mono_left (BI.bigSep_of_persistent (Finset.univ : Finset (Fin 15)) (records PB GB K))).trans ?_
  rw [← bigSep_sep']
  exact (bigSep_mono fun r _ => close_cell c K PB GB (some (f, r))).trans (bigSep_fupd _ _)

theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem close_cells : iprop(records PB GB K ∗ cellsAfter c) ⊢ (|={Set.univ}=> cellSems c : sProp 𝕄) := by
  unfold cellsAfter cellSems
  rw [fin4]
  iintro ⟨#HR, Hb, H0, H1, H2, H3⟩
  imod (close_cell c K PB GB none) $$ [Hb] with Hb
  · isplitr; · iexact HR
    iexact Hb
  imod (close_family c K PB GB 0) $$ [H0] with H0
  · isplitr; · iexact HR
    iexact H0
  imod (close_family c K PB GB 1) $$ [H1] with H1
  · isplitr; · iexact HR
    iexact H1
  imod (close_family c K PB GB 2) $$ [H2] with H2
  · isplitr; · iexact HR
    iexact H2
  imod (close_family c K PB GB 3) $$ [H3] with H3
  · isplitr; · iexact HR
    iexact H3
  imodintro
  isplitl [Hb]; · iexact Hb
  isplitl [H0]; · iexact H0
  isplitl [H1]; · iexact H1
  isplitl [H2] <;> iassumption

end Cert.KernelIdeal.Mesh

end
-- ==== Proof.Deal.lean ====
module

public import proofs.«01_k».proof.Proof.Body

/-!
# What the launch deals

Every device's cells with the tokens of their duties, dealt so that each duty's token lies with the device that pays it; the
credits that the peers owe it; its semaphores.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts

variable {F : FTy → Type} [FloatOps F] [Named F]

local notation "𝕄" => MT nD τ sig Unit (Elt F) ℕ UU ℕ

/-! ## Conjunctions over a device's cells -/

theorem cells_sep (Φ : Cell → sProp 𝕄) : bigSep Finset.univ Φ = iprop(Φ none ∗ bigSep Finset.univ fun x : Fin 4 × Fin 15 => Φ (some x)) := by
  rw [bigSep_univ_equiv (Equiv.optionEquivSumPUnit.{0} (Fin 4 × Fin 15)).symm Φ, bigSep_univ_sum]
  have e : (bigSep Finset.univ fun b : PUnit => Φ ((Equiv.optionEquivSumPUnit.{0} (Fin 4 × Fin 15)).symm (.inr b))) = Φ none := by
    rw [show (Finset.univ : Finset PUnit) = {PUnit.unit} from rfl, bigSep_singleton]; rfl
  rw [e]
  change iprop((bigSep Finset.univ fun x : Fin 4 × Fin 15 => Φ (some x)) ∗ Φ none) = _
  exact equiv_iff.mp ⟨Idealize.SL.BI.sep_comm, Idealize.SL.BI.sep_comm⟩

theorem families (Φ : Fin 4 × Fin 15 → sProp 𝕄) : bigSep Finset.univ Φ = iprop(all rs (fun r => Φ (0, r)) ∗ all rs (fun r => Φ (1, r)) ∗ all rs (fun r => Φ (2, r)) ∗ all rs (fun r => Φ (3, r))) := by
  rw [bigSep_univ_prod, fin4, all_rs, all_rs, all_rs, all_rs]

/-- Over all devices and distances, a pair may be named from its other end. -/
theorem flipped (Φ : Dev nD × Fin 15 → sProp 𝕄) :
    (bigSep Finset.univ fun c : Dev nD => all rs fun r => Φ (c, r)) = bigSep Finset.univ fun c : Dev nD => all rs fun r => Φ (peer c r, r.rev) := by
  have h (Ψ : Dev nD × Fin 15 → sProp 𝕄) : (bigSep Finset.univ fun c : Dev nD => all rs fun r => Ψ (c, r)) = bigSep Finset.univ Ψ := by
    rw [bigSep_univ_prod]; exact bigSep_congr fun c _ => (all_rs _).symm
  rw [h Φ, h (fun x => Φ (peer x.1 x.2, x.2.rev)), bigSep_univ_equiv flip Φ]; rfl

/-! ## Semaphores -/

/-- A device's own semaphores: the copies', the four that no transfer uses, and its cells' but the barrier. -/
abbrev SemIx : Type := Fin 6 ⊕ Fin 4 ⊕ (Fin 4 × Fin 15)
abbrev osem : SemIx → SemLoc sig
  | .inl i => copySem i
  | .inr (.inl f) => .dma (semOf (fam f) 0)
  | .inr (.inr x) => csem (some x)

/-- The four semaphores that no transfer uses, at rest. -/
def idleSems (c : Dev nD) : sProp 𝕄 := bigSep Finset.univ fun f : Fin 4 => semVal ((c : Thread nD τ), .dma (semOf (fam f) 0)) 0

theorem fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

theorem ownSems0_eq (c : Dev nD) : (Pipeline.ownSems0 (Ix := Unit) (Name := ℕ) (U := UU) (Lvl := ℕ) (Val := Elt F) (τ := τ) osem c : sProp 𝕄)
    = iprop(copySems c ∗ idleSems c ∗ bigSep Finset.univ fun x : Fin 4 × Fin 15 => semVal (cell c (some x)) 0) := by
  unfold Pipeline.ownSems0 copySems idleSems
  rw [bigSep_univ_sum, bigSep_univ_sum, fin6]
  rfl

theorem unscopedSems0_eq (c : Dev nD) : (unscopedSems0 c : sProp 𝕄) = semVal (bar c) 0 := by
  unfold unscopedSems0; rw [bigSep_eq_bigSepL_of_eq [SemLoc.reg barSem] (by decide) (by decide)]; rfl

/-- A device's semaphores: the copies', the idle, and one per cell. -/
theorem sems_eq (c : Dev nD) :
    (iprop(Pipeline.ownSems0 (Ix := Unit) (Name := ℕ) (U := UU) (Lvl := ℕ) (Val := Elt F) (τ := τ) osem c ∗ unscopedSems0 c) : sProp 𝕄)
      ⊢ iprop(copySems c ∗ idleSems c ∗ bigSep Finset.univ fun j : Cell => semVal (cell c j) 0) := by
  rw [ownSems0_eq, unscopedSems0_eq, cells_sep]
  iintro ⟨⟨H1, H2, H3⟩, H4⟩
  isplitl [H1]; · iexact H1
  isplitl [H2]; · iexact H2
  isplitl [H4] <;> iassumption

theorem sems_back (c : Dev nD) : (iprop(copySems c ∗ idleSems c ∗ cellSems c) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq, families]
  unfold cellSems
  rw [fin4]
  iintro ⟨H1, H2, H4, H3⟩
  isplitl [H4]; · iexact H4
  isplitl [H1]; · iexact H1
  isplitl [H2] <;> iassumption

/-! ## Cells and tokens -/

abbrev tokOf : Dev nD × (Fin 15 ⊕ (Fin 4 × Fin 15)) → GSem nD τ sig × ℕ × Fin 15
  | (c, .inl d) => (bar c, 0, d)
  | (c, .inr x) => (cell c (some x), 0, 0)
theorem tokOf_inj : Function.Injective tokOf := by
  rintro ⟨c, d | x⟩ ⟨c', d' | x'⟩ h
  · have h1 := cell_inj (a₁ := (c, none)) (a₂ := (c', none)) (congrArg Prod.fst h)
    have h2 : d = d' := congrArg (fun t => t.2.2) h
    cases h1; cases h2; rfl
  · have h1 := cell_inj (a₁ := (c, none)) (a₂ := (c', some x')) (congrArg Prod.fst h)
    cases h1
  · have h1 := cell_inj (a₁ := (c, some x)) (a₂ := (c', none)) (congrArg Prod.fst h)
    cases h1
  · have h1 := cell_inj (a₁ := (c, some x)) (a₂ := (c', some x')) (congrArg Prod.fst h)
    cases h1; rfl

def meshCells : Finset (GSem nD τ sig) := Finset.univ.map ⟨fun x : Dev nD × Cell => cell x.1 x.2, cell_inj⟩
def meshToks : Finset (GSem nD τ sig × ℕ × Fin 15) := Finset.univ.map ⟨tokOf, tokOf_inj⟩

/-- The launch's element: the pipeline's cells, the mesh's cells. -/
def u₀ : UU := (initOf (Pipeline.cells cfgs cellOf_inj) (Pipeline.launchToks cfgs cellOf_inj), (initOf meshCells meshToks, 1))

/-- The tokens of the duties of a device's own cells. -/
def minted (c : Dev nD) : sProp 𝕄 :=
  iprop((bigSep Finset.univ fun d : Fin 15 => dutyTok ER (bar c) 0 d) ∗ bigSep Finset.univ fun x : Fin 4 × Fin 15 => dutyTok ER (cell c (some x)) 0 0)

variable (PB : Dev nD → cc0_scratch3.ty.Contents (Elt F)) (GB : Dev nD → Vec F S1x16x1024 .bf16)

/-- A device's positions. -/
def positions (c : Dev nD) : sProp 𝕄 := iprop((bigSep Finset.univ fun j : Cell => atPos ER (cell c j) 0 ∅ 0) ∗ bigSep Finset.univ fun j : Cell => reached ER (cell c j) 0)

/-- What the launch's element holds for a device. -/
def G (c : Dev nD) : sProp 𝕄 := iprop((bigSep Finset.univ fun j : Cell => roundState ER (rd PB GB) (cell c j) 0) ∗ positions c ∗ minted c)

theorem fund_mesh : BI.own (ER (initOf meshCells meshToks)) ⊢ (|==> bigSep Finset.univ (G PB GB) : sProp 𝕄) := by
  have hX (Φ : GSem nD τ sig → sProp 𝕄) : bigSep meshCells Φ = bigSep Finset.univ fun c : Dev nD => bigSep Finset.univ fun j : Cell => Φ (cell c j) := by
    unfold meshCells; rw [bigSep_map, bigSep_univ_prod]; rfl
  have hT : bigSep meshToks (fun x => (dutyTok ER x.1 x.2.1 x.2.2 : sProp 𝕄)) = bigSep Finset.univ fun c : Dev nD => minted c := by
    unfold meshToks minted; rw [bigSep_map, bigSep_univ_prod]
    exact bigSep_congr fun c _ => by rw [bigSep_univ_sum]; rfl
  iintro H
  imod (Rounds.fund ER (rd PB GB) meshCells meshToks) $$ H with ⟨Hst, Hr, Hat, Ht⟩
  imodintro
  ihave Hst := (Entails.of_eq (hX fun g => roundState ER (rd PB GB) g 0)) $$ Hst
  ihave Hat := (Entails.of_eq (hX fun g => atPos ER g 0 ∅ 0)) $$ Hat
  ihave Hr := (Entails.of_eq (hX fun g => reached ER g 0)) $$ Hr
  ihave Ht := (Entails.of_eq hT) $$ Ht
  unfold G positions; simp only [bigSep_sep']
  isplitl [Hst]; · iexact Hst
  isplitl [Hat Hr]
  · isplitl [Hat] <;> iassumption
  iexact Ht

/-- A device's semaphores become its cells. -/
theorem core_alloc (c : Dev nD) :
    iprop(Pipeline.ownSems0 (Ix := Unit) (Name := ℕ) (U := UU) (Lvl := ℕ) (Val := Elt F) (τ := τ) osem c ∗ unscopedSems0 c ∗ G PB GB c)
      ⊢ (|={Set.univ}=> iprop((bigSep Finset.univ fun j : Cell => iprop(∃ κ : ℕ, cellInv ER (rd PB GB) κ (cell c j)))
          ∗ (copySems c ∗ idleSems c) ∗ positions c ∗ minted c) : sProp 𝕄) := by
  unfold G
  iintro ⟨Hos, Hus, Hst, Hat, Ht⟩
  ihave Hv := (sems_eq c) $$ [Hos Hus]
  · isplitl [Hos] <;> iassumption
  icases Hv with ⟨Hc, Hi, Hv⟩
  imod (show iprop((bigSep Finset.univ fun j : Cell => semVal (cell c j) 0) ∗ bigSep Finset.univ fun j : Cell => roundState ER (rd PB GB) (cell c j) 0)
      ⊢ (|={Set.univ}=> bigSep Finset.univ fun j : Cell => iprop(∃ κ : ℕ, cellInv ER (rd PB GB) κ (cell c j)) : sProp 𝕄) from by
        rw [← bigSep_sep']
        exact (bigSep_mono fun j _ => (Rounds.body_intro ER (rd PB GB) (cell c j)).trans inv_alloc).trans (bigSep_fupd _ _)) $$ [Hv Hst] with Hinv
  · isplitl [Hv] <;> iassumption
  imodintro
  isplitl [Hinv]; · iexact Hinv
  isplitl [Hc Hi]
  · isplitl [Hc] <;> iassumption
  isplitl [Hat] <;> iassumption

/-- The tokens that a device pays with. -/
def payToks (c : Dev nD) : sProp 𝕄 := iprop(barToks c ∗ all rs (toks c))

theorem toks_eq (c : Dev nD) : (all rs (toks (F := F) c) : sProp 𝕄)
    = iprop((all rs (fun r => dutyTok ER (at_ 0 c r) 0 0) ∗ all rs (fun r => dutyTok ER (at_ 1 (peer c r) r.rev) 0 0))
      ∗ (all rs (fun r => dutyTok ER (at_ 2 c r) 0 0) ∗ all rs (fun r => dutyTok ER (at_ 3 (peer c r) r.rev) 0 0))) := by
  rw [toks_split, all_sep, all_sep]

/-- Each token dealt to the device that pays the duty. -/
theorem toks_around : (bigSep Finset.univ fun c : Dev nD => (minted c : sProp 𝕄)) ⊢ bigSep Finset.univ fun c : Dev nD => payToks c := by
  have e1 : ∀ c : Dev nD, (minted c : sProp 𝕄) = iprop(all rs (fun r => dutyTok ER (bar c) 0 r) ∗ all rs (fun r => dutyTok ER (at_ 0 c r) 0 0)
      ∗ all rs (fun r => dutyTok ER (at_ 1 c r) 0 0) ∗ all rs (fun r => dutyTok ER (at_ 2 c r) 0 0) ∗ all rs (fun r => dutyTok ER (at_ 3 c r) 0 0)) := fun c => by
    unfold minted; rw [families, all_rs]
  have e2 : ∀ c : Dev nD, (payToks c : sProp 𝕄) = iprop(all rs (fun r => dutyTok ER (bar (peer c r)) 0 r.rev) ∗ (all rs (fun r => dutyTok ER (at_ 0 c r) 0 0)
      ∗ all rs (fun r => dutyTok ER (at_ 1 (peer c r) r.rev) 0 0)) ∗ (all rs (fun r => dutyTok ER (at_ 2 c r) 0 0) ∗ all rs (fun r => dutyTok ER (at_ 3 (peer c r) r.rev) 0 0))) := fun c => by
    unfold payToks barToks; rw [toks_eq]
  rw [bigSep_congr fun c _ => e1 c, bigSep_congr fun c _ => e2 c]
  simp only [bigSep_sep']
  have f0 := flipped (F := F) fun x => dutyTok ER (bar x.1) 0 x.2
  have f1 := flipped (F := F) fun x => dutyTok ER (at_ 1 x.1 x.2) 0 0
  have f3 := flipped (F := F) fun x => dutyTok ER (at_ 3 x.1 x.2) 0 0
  dsimp only at f0 f1 f3
  rw [f0, f1, f3]
  iintro ⟨H0, H1, H2, H3, H4⟩
  isplitl [H0]; · iexact H0
  isplitl [H1 H2]
  · isplitl [H1] <;> iassumption
  isplitl [H3] <;> iassumption

/-- What stays with a device. -/
def linear (c : Dev nD) : sProp 𝕄 := iprop((copySems c ∗ idleSems c) ∗ (bigSep Finset.univ fun j : Cell => atPos ER (cell c j) 0 ∅ 0) ∗ payToks c)

/-- What a device starts from, of the cells. -/
def G' (c : Dev nD) : sProp 𝕄 := iprop(∃ K, records PB GB K ∗ linear c)

theorem with_records {K : Dev nD × Cell → ℕ} {Φ Ψ : Dev nD → sProp 𝕄} (h : ∀ c, iprop(records PB GB K ∗ Φ c) ⊢ Ψ c) :
    iprop(records PB GB K ∗ bigSep Finset.univ Φ) ⊢ bigSep Finset.univ Ψ :=
  (sep_mono_left (BI.bigSep_of_persistent (Finset.univ : Finset (Dev nD)) (records PB GB K))).trans (by rw [← bigSep_sep']; exact bigSep_mono fun c _ => h c)

theorem regroup :
    (bigSep Finset.univ fun c : Dev nD => iprop((bigSep Finset.univ fun j : Cell => iprop(∃ κ : ℕ, cellInv ER (rd PB GB) κ (cell c j)))
          ∗ (copySems c ∗ idleSems c) ∗ positions c ∗ minted c) : sProp 𝕄) ⊢ bigSep Finset.univ (G' PB GB) := by
  unfold positions
  rw [bigSep_sep', bigSep_sep', bigSep_sep', bigSep_sep', bigSep_sep', ← bigSep_univ_prod (fun x : Dev nD × Cell => iprop(∃ κ : ℕ, cellInv ER (rd PB GB) κ (cell x.1 x.2))),
    ← bigSep_univ_prod (fun x : Dev nD × Cell => (reached ER (cell x.1 x.2) 0 : sProp 𝕄))]
  iintro ⟨HI, Hs, ⟨Hat, #HR⟩, Ht⟩
  ihave HK := (BI.bigSep_exists_pi Finset.univ (fun (x : Dev nD × Cell) (κ : ℕ) => (cellInv ER (rd PB GB) κ (cell x.1 x.2) : sProp 𝕄))) $$ HI
  icases HK with ⟨%K, #HI⟩
  ihave Ht := (toks_around (F := F)) $$ Ht
  iapply (with_records PB GB (K := K) (Φ := linear) (fun c => show iprop(records PB GB K ∗ linear c) ⊢ G' PB GB c from by unfold G'; iintro H; iexists K; iexact H))
  isplitr
  · unfold records; isplitl; · iexact HI
    iexact HR
  · unfold linear
    rw [bigSep_sep', bigSep_sep', bigSep_sep']
    isplitl [Hs]; · iexact Hs
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G PB GB c) : sProp 𝕄)
    ⊢ |={Set.univ}=> bigSep Finset.univ (G' PB GB) :=
  ((bigSep_mono fun c _ => core_alloc PB GB c).trans (bigSep_fupd _ _)).trans (BI.fupd_mono (regroup PB GB))

/-! ## The credits -/

/-- The devices, each moved to its peer at r. -/
def shift (r : Fin 15) : Dev nD ≃ Dev nD := ⟨fun c => peer c r, fun c => peer c r.rev, fun c => peer_rev c r, fun c => peer_rev' c r⟩

theorem tally_owner (g : GSem nD τ sig) (k : ℕ) (g' : GSem nD τ sig) (h : (tallyAt g () k : CellTallies nD τ sig Unit) g' ≠ 0) : g' = g := by
  by_contra hne
  exact h (tallyAt_ne_cell hne () k)

theorem sum_tally (g : GSem nD τ sig) : ∀ n : ℕ, (n • tallyAt g () 1 : CellTallies nD τ sig Unit) = tallyAt g () n
  | 0 => by rw [zero_smul, tallyAt_zero]
  | n + 1 => by rw [succ_nsmul, sum_tally g n, tallyAt_add]

theorem launch_bar (c : Dev nD) : (Pipeline.launchCred (fun d => owed rs (tB d)) c : sProp 𝕄) = cred (tallyAt (bar c) () 15) := by
  refine Pipeline.launchCred_of_sum _ (fun d => tallyAt (bar d) () 15) ?_ (fun d g h => by rw [tally_owner _ _ _ h]) c
  have e : ∀ r : Fin 15, (∑ d : Dev nD, tB d r) = ∑ d : Dev nD, (tallyAt (bar d) () 1 : CellTallies nD τ sig Unit) := fun r =>
    Equiv.sum_comp (shift r) fun d => (tallyAt (bar d) () 1 : CellTallies nD τ sig Unit)
  rw [Finset.sum_congr rfl fun d _ => owed_rs (tB d), Finset.sum_comm, Finset.sum_congr rfl fun r _ => e r, Finset.sum_const, Finset.card_univ, Fintype.card_fin,
    Finset.smul_sum]
  exact Finset.sum_congr rfl fun d _ => sum_tally _ 15

theorem launch_at (f : Fin 4) (c : Dev nD) : (Pipeline.launchCred (fun d => owed rs (tC f d)) c : sProp 𝕄) = creds f c := by
  have e : ∀ r : Fin 15, (Pipeline.launchCred (fun d => tC f d r) c : sProp 𝕄) = cred (tallyAt (at_ f c r.rev) () N) := fun r =>
    Pipeline.launchCred_of_sum _ (fun d => tallyAt (at_ f d r.rev) () N)
      (Equiv.sum_comp (shift r) fun d => (tallyAt (at_ f d r.rev) () N : CellTallies nD τ sig Unit)) (fun d g h => by rw [tally_owner _ _ _ h]) c
  rw [show (fun d => owed rs (tC f d)) = fun d => ∑ r, tC f d r from funext fun d => owed_rs _, Pipeline.launchCred_sum]
  unfold creds
  rw [bigSep_congr fun r _ => e r, ← all_rs, bigSep_univ_equiv Fin.revPerm (fun r => (cred (tallyAt (at_ f c r) () N) : sProp 𝕄))]
  rfl

theorem launch_creds (c : Dev nD) : (Pipeline.launchCred O₀ c : sProp 𝕄) ⊢ iprop(cred (tallyAt (bar c) () 15) ∗ creds 1 c ∗ creds 3 c) := by
  have e : (O₀ : Dev nD → CellTallies nD τ sig Unit) = fun d => owed rs (tB d) + (owed rs (tC 1 d) + owed rs (tC 3 d)) := funext fun d => by
    unfold O₀ O₁; rw [add_zero]
  rw [e, Pipeline.launchCred_add, Pipeline.launchCred_add, launch_bar, launch_at, launch_at]

end Cert.KernelIdeal.Mesh

end
-- ==== Proof.Launch.lean ====
module

public import proofs.«01_k».proof.Proof.Deal
public import proofs.«01_k».proof.Proof.Gen.KernelIdeal.Launch

/-!
# The launch

The pipeline's one point runs the body; the mesh's cells are made before it and closed after it. The run of the whole program leaves
the operands as they were, the result at the value that the body computes and every semaphore at rest.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

attribute [local instance] Cert.KernelIdeal.Gen.facts

variable {F : FTy → Type} [FloatOps F] [Named F]

local notation "𝕄" => MT nD τ sig Unit (Elt F) ℕ UU ℕ

variable (m : (ℓ : Loc nD τ sig) → Buf (Elt F) ℓ)

/-- The operands' blocks that a memory holds. -/
def blocks : Blocks F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg4))
  k c := m ((c : Thread nD τ).loc main_arg2)
  v c := m ((c : Thread nD τ).loc main_arg3)

/-- The result that a memory's operands give on device c. -/
@[irreducible] def result (c : Dev nD) : cc0_stg3_0.ty.Contents (Elt F) := outOf (blocks m) c

abbrev PBm := PBs (blocks m)
abbrev GBm := GBof (PBs (blocks m)) (OBs (blocks m))

/-- The operands that the body reads where they lie. -/
def inPlace (c : Dev nD) : sProp 𝕄 := iprop(held c kM ((blocks m).k c) ∗ held c vM ((blocks m).v c))

/-- What a device's body starts from, -/
def start (c : Dev nD) : sProp 𝕄 :=
  iprop(G' (PBm m) (GBm m) c ∗ (cred (tallyAt (bar c) () 15) ∗ creds 1 c ∗ creds 3 c) ∗ levAts L lv ∗ inPlace m c)
def Φ₀ (c : Dev nD) : sProp 𝕄 := iprop(start m c ∗ scratch c)
/-- and what it leaves. -/
def Φ₁ (c : Dev nD) : sProp 𝕄 := iprop((copySems c ∗ idleSems c ∗ cellSems c) ∗ inPlace m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => (blocks m).x c
    | ⟨1, _⟩ => (blocks m).wq c
    | ⟨2, _⟩ => (blocks m).wo c
    | ⟨3, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem own_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The body from what the launch gives to what the pipeline takes back. -/
theorem point (c : Dev nD) (Ψ : PUnit.{1} → sProp 𝕄) (o : cc0_stg3_0.ty.Contents (Elt F)) :
    iprop(Φ₀ m c ∗ owesE c (O₀ c) ∗ held c xM ((blocks m).x c) ∗ held c wqM ((blocks m).wq c) ∗ held c woM ((blocks m).wo c) ∗ held c oM o)
    ⊢ iprop(((Φ₁ m c ∗ owesE c 0 ∗ held c xM ((blocks m).x c) ∗ held c wqM ((blocks m).wq c) ∗ held c woM ((blocks m).wo c) ∗ held c oM (result m c)) -∗ Ψ ⟨⟩)
        -∗ run c shape Ψ) := by
  unfold Φ₀ start G' linear inPlace payToks
  iintro ⟨⟨⟨⟨%K, #HR, ⟨HS, Hi⟩, Hat, Hbt, Ht⟩, ⟨Hc, Hc1, Hc3⟩, #Hlev, Hk, Hv⟩, Hscr⟩, HO, Hx, Hwq, Hwo, Ho⟩ HΨ
  ihave Hat := (Entails.of_eq ((cells_sep fun j => atPos ER (cell c j) 0 ∅ 0).trans (congrArg _ (families _)))) $$ Hat
  icases Hat with ⟨Hb, H0, H1, H2, H3⟩
  iapply (wp_fupd)
  iapply (run_body c (blocks m) K (fun _ => iprop(|={Set.univ}=> Ψ ⟨⟩)) o) $$ [HS Hb H0 H1 H2 H3 Hbt Ht Hc Hc1 Hc3 Hk Hv Hscr HO Hx Hwq Hwo Ho]
  · isplitr; · iexact HR
    isplitr; · iexact Hlev
    isplitl [HO]; · iexact HO
    isplitl [Hb H0 H1 H2 H3 Ht Hc Hc1 Hc3]
    · unfold cellsBefore
      isplitl [Hc]; · iexact Hc
      isplitl [Hc1]; · iexact Hc1
      isplitl [Hc3]; · iexact Hc3
      isplitl [Hb]; · iexact Hb
      isplitl [H0]; · unfold cellsAt; iexact H0
      isplitl [H1]; · unfold cellsAt; iexact H1
      isplitl [H2]; · unfold cellsAt; iexact H2
      isplitl [H3]; · unfold cellsAt; iexact H3
      iexact Ht
    isplitl [Hbt]; · iexact Hbt
    isplitl [HS]; · iexact HS
    isplitl [Hk Hv Hx Hwq Hwo]
    · unfold operands
      isplitl [Hx]; · iexact Hx
      isplitl [Hwq]; · iexact Hwq
      isplitl [Hwo]; · iexact Hwo
      isplitl [Hk] <;> iassumption
    isplitl [Ho] <;> iassumption
  unfold operands
  iintro ⟨HO, Hcells, HS, ⟨Hx, Hwq, Hwo, Hk, Hv⟩, Ho, Hscr⟩
  imod (close_cells c K (PBm m) (GBm m)) $$ [Hcells] with Hcells
  · isplitr; · iexact HR
    iexact Hcells
  imodintro
  iapply HΨ
  unfold Φ₁ inPlace
  isplitl [HS Hi Hcells Hk Hv Hscr]
  · isplitl [HS Hi Hcells]
    · isplitl [HS]; · iexact HS
      isplitl [Hi] <;> iassumption
    isplitl [Hk Hv]
    · isplitl [Hk] <;> iassumption
    iexact Hscr
  isplitl [HO]; · iexact HO
  isplitl [Hx]; · iexact Hx
  isplitl [Hwq]; · iexact Hwq
  isplitl [Hwo]; · iexact Hwo
  unfold oPts result; iexact Ho

set_option maxRecDepth 4000 in
/-- What the pipeline hands the body, and what it takes back. -/
def pre (c : Dev nD) : sProp 𝕄 :=
  iprop(Φ₀ m c ∗ (dats m 0 c).owesAt () t0_0.castSucc
    ∗ (∃ d, ∃ f : Buf (Elt F) ((c : Thread nD τ).loc cc0_stg0_0), ⌜f = (dats m 0 c).before (0 : Fin 4) t0_0 d⌝ ∗ (((c : Thread nD τ).loc cc0_stg0_0) ↦{fullShare} f))
    ∗ (∃ d, ∃ f : Buf (Elt F) ((c : Thread nD τ).loc cc0_stg1_0), ⌜f = (dats m 0 c).before (1 : Fin 4) t0_0 d⌝ ∗ (((c : Thread nD τ).loc cc0_stg1_0) ↦{fullShare} f))
    ∗ (∃ d, ∃ f : Buf (Elt F) ((c : Thread nD τ).loc cc0_stg2_0), ⌜f = (dats m 0 c).before (2 : Fin 4) t0_0 d⌝ ∗ (((c : Thread nD τ).loc cc0_stg2_0) ↦{fullShare} f))
    ∗ (∃ d, ∃ f : Buf (Elt F) ((c : Thread nD τ).loc cc0_stg3_0), ⌜f = (dats m 0 c).before (3 : Fin 4) t0_0 d⌝ ∗ (((c : Thread nD τ).loc cc0_stg3_0) ↦{fullShare} f)))
set_option maxRecDepth 4000 in
@[inherit_doc pre] def post (c : Dev nD) : sProp 𝕄 :=
  iprop(Φ₁ m c ∗ (dats m 0 c).owesAt () t0_0.succ
    ∗ (∃ f : Buf (Elt F) ((c : Thread nD τ).loc cc0_stg0_0), ⌜f = (blocks m).x c⌝ ∗ (((c : Thread nD τ).loc cc0_stg0_0) ↦{fullShare} f))
    ∗ (∃ f : Buf (Elt F) ((c : Thread nD τ).loc cc0_stg1_0), ⌜f = (blocks m).wq c⌝ ∗ (((c : Thread nD τ).loc cc0_stg1_0) ↦{fullShare} f))
    ∗ (∃ f : Buf (Elt F) ((c : Thread nD τ).loc cc0_stg2_0), ⌜f = (blocks m).wo c⌝ ∗ (((c : Thread nD τ).loc cc0_stg2_0) ↦{fullShare} f))
    ∗ (∃ f : Buf (Elt F) ((c : Thread nD τ).loc cc0_stg3_0), ⌜f = result m c⌝ ∗ (((c : Thread nD τ).loc cc0_stg3_0) ↦{fullShare} f)))

theorem before_x (c : Dev nD) (d) : (dats m 0 c).before (0 : Fin 4) t0_0 d = (blocks m).x c := by
  unfold Dat.before; rw [if_pos (fetch0_0 t0_0)]; rfl
theorem before_wq (c : Dev nD) (d) : (dats m 0 c).before (1 : Fin 4) t0_0 d = (blocks m).wq c := by
  unfold Dat.before; rw [if_pos (fetch0_1 t0_0)]; rfl
theorem before_wo (c : Dev nD) (d) : (dats m 0 c).before (2 : Fin 4) t0_0 d = (blocks m).wo c := by
  unfold Dat.before; rw [if_pos (fetch0_2 t0_0)]; rfl

theorem point' (c : Dev nD) : pre m c ⊢ run c shape (fun _ => post m c) := by
  unfold pre
  simp only [before_x, before_wq, before_wo]
  unfold Dat.owesAt Pipeline.owesWithin
  rw [show (dats m 0 c).owed t0_0.castSucc = O₀ c from rfl]
  iintro ⟨HΦ, ⟨%W, %hW, HO⟩, ⟨%d0, %x, %hx, Hx⟩, ⟨%d1, %wq, %hwq, Hwq⟩, ⟨%d2, %wo, %hwo, Hwo⟩, ⟨%d3, %o, %ho, Ho⟩⟩
  subst hx hwq hwo
  iapply (point m c (fun _ => post m c) o) $$ [HΦ HO Hx Hwq Hwo Ho]
  · isplitl [HΦ]; · iexact HΦ
    isplitl [HO]; · unfold owesE; iexists W; iexact HO
    isplitl [Hx]; · iexact Hx
    isplitl [Hwq]; · iexact Hwq
    isplitl [Hwo] <;> iassumption
  unfold owesE post Dat.owesAt Pipeline.owesWithin
  rw [show (dats m 0 c).owed t0_0.succ = 0 from rfl]
  iintro ⟨HΦ, ⟨%W', HO⟩, Hx, Hwq, Hwo, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Ho

set_option maxRecDepth 100000 in
theorem call_shape : defs₀ (F := F) Proc.tc 0 (t0_0, cfg0.slots t0_0) = shape := body_shape

set_option maxRecDepth 100000 in
theorem body_obligation (c : Dev nD) : BodyObligation (dats m 0 c) (defs₀ (F := F)) 𝒱₀ () Set.univ := fun t => by
  rw [fin_N0 t]
  rw [bigSep_W0, bigSep_W0, call_shape]
  simp only [own_whole]
  exact point' m c

end Cert.KernelIdeal.Mesh

end
-- ==== Proof.Run.lean ====
module

public import proofs.«01_k».proof.Proof.Launch
public import Idealize.ShloMosaic.Lib.Pipeline.CollectiveSegs

/-!
# The run

Every fair execution of the program from any memory with its semaphores at rest ends, with the operands as they were, the result at the
computed value on every device and the semaphores at rest again.
-/

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

attribute [local instance] Cert.KernelIdeal.Gen.facts

variable {F : FTy → Type} [FloatOps F] [Named F]

local notation "𝕄" => MT nD τ sig Unit (Elt F) ℕ UU ℕ

variable (m : (ℓ : Loc nD τ sig) → Buf (Elt F) ℓ) (ρ : Dev nD → PrngReg)

theorem own_facts : Pipeline.OwnSemFacts cfg0.spec osem := by decide +kernel

theorem shares (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (PBm m) (GBm m) c)
      ⊢ |={Set.univ}=> iprop(start m c ∗ emp) := by
  rw [Pipeline.unscopedRestP_none, unscopedRest0_eq]
  iintro ⟨⟨Hk, Hv⟩, Hlev, Hcr, -, HG⟩
  ihave Hc := (launch_creds (F := F) c) $$ Hcr
  imodintro
  unfold start inPlace
  isplitl
  · isplitl [HG]; · iexact HG
    isplitl [Hc]; · iexact Hc
    isplitl [Hlev]; · iexact Hlev
    isplitl [Hk]; · iexact Hk
    iexact Hv
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  unfold pAll rAll gAll
  iexact Hr

theorem leave (c : Dev nD) :
    (dats m 0 c).Φ (Fin.last cfg0.N) ⊢ iprop((unscopedSems0 c ∗ inPlace m c) ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hs, Hp, Hr⟩
  ihave Hs := (sems_back (F := F) c) $$ Hs
  icases Hs with ⟨Hu, Ho⟩
  isplitl [Hu Hp]
  · isplitl [Hu] <;> iassumption
  isplitl [Ho]; · iexact Ho
  unfold pAll rAll gAll
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine mayWait c _ 0 ?_ (O₀ c) (above_O₀ c)
      unfold lv
      rw [decode_low _ (by fin_cases w <;> fin_cases s <;> decide)]
      exact Nat.le_refl 0
    · change _ ⊢ MayWait _ _ _ 0
      rw [MayWait_zero]
      exact BI.Laws.true_intro

/-- What a device's memory holds at the end beside the windows' arrays. -/
def Held (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem read_out (c : Dev nD) (s' : Phys nD τ sig (Elt F)) :
    iprop((unscopedSems0 c ∗ inPlace m c) ∗ emp ∗ SI s') ⊢ |={Set.univ}=> (iprop(⌜Held m c s'.mem⌝ ∗ SI s') : sProp 𝕄) := by
  unfold inPlace
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hk i (Finset.mem_univ i), funext fun i => hv i (Finset.mem_univ i)⟩
  iexact HSI

set_option maxRecDepth 100000 in
/-- The run of the whole program. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = (dats m 0 c).arrAt w cfg0.N) ∧ Held m c r.2) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := block_pos0) (harr := arr_whole0) (hstage := stage_whole0) (hshare := shares m)
    (hdistinct := winFacts0.arr_inj)
    (O₀ := O₀) (howed₀ := fun _ => rfl) (howedN := fun _ => rfl)
    (L := L) (lv := lv) (hL := L_of_ne) (hwaits := waits m)
    (G := G (PBm m) (GBm m)) (G' := G' (PBm m) (GBm m)) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_mesh (PBm m) (GBm m)) $$ HX with HG
      imodintro
      isplitl [HP] <;> iassumption)
    (hglob := glob (PBm m) (GBm m))
    (hA := fun _ _ => rfl) (hpf := fun _ k => k.elim0)
    (X := start m) (Y := fun c => iprop(unscopedSems0 c ∗ inPlace m c)) (Z := fun _ => iprop(emp))
    (hX := start_intro m ρ) (hin := enter m) (hout := leave m)
    (QY := Held m) (hY := read_out m)
    (hQ := fun _ h hs => ⟨fun c => ⟨(h c).1, (h c).2.2⟩, sem_eq_zero hs fun c => (h c).2.2.1⟩)

/-- The final contents of the result's array on device c. -/
def final (c : Dev nD) : Buf (Elt F) ((c : Thread nD τ).loc main_v1) := (dats m 0 c).arrAt (3 : Fin 4) cfg0.N

/-- Its one block is the result. -/
theorem final_eq (c : Dev nD) : (win0_3.blk (0 : Fin 1)).view.read (Elt F) (final m c) = result m c := by
  unfold final
  rw [show cfg0.N = t0_0.val + 1 from rfl, (dats m 0 c).arrAt_succ (3 : Fin 4) t0_0, flush0_3, if_pos rfl]
  exact View.read_write_univ _ _

/-- The run, at the program's arrays. -/
theorem run_arrays : θ_run defs (onTc (τ := τ) (main (F := F))) ⟨m, fun _ => 0, ρ⟩
    (fun r => (∀ c : Dev nD, r.2.mem ((c : Thread nD τ).loc main_v1) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono ?_ (run_main m ρ)
  rintro r ⟨h, hs⟩
  exact ⟨fun c => ⟨(h c).1 3, ((h c).1 0).trans ((dats m 0 c).arrAt_in (0 : Fin 4) rfl _), ((h c).1 1).trans ((dats m 0 c).arrAt_in (1 : Fin 4) rfl _),
    (h c).2.2.1, (h c).2.2.2, ((h c).1 2).trans ((dats m 0 c).arrAt_in (2 : Fin 4) rfl _)⟩, hs⟩

/-- The run, at the program's arguments. -/
theorem run_args : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => (h.1 c).2, h.2⟩) (run_arrays m ρ)

end Cert.KernelIdeal.Mesh

end
-- ==== Proof.Frames.lean ====
module

public import proofs.«01_k».proof.Defs
public import proofs.«01_k».proof.Proof.Gen.Kernel
public import proofs.«01_k».proof.Proof.Gen.ReferenceIdeal.Run
public import proofs.«01_k».proof.Proof.Run

/-!
# The frames

The three programs run, leave their arguments as they were and their semaphores at rest. The program as compiled and its idealization
are one text at bit-exact floats, where a named constant is its bits.
-/

@[expose] public section

noncomputable section

namespace Cert

open Idealize.ShloMosaic Idealize.SL.Sem
open Idealize.ShloMosaic.TcCoe

attribute [local instance] Cert.Kernel.Gen.facts Cert.KernelIdeal.Gen.facts Cert.ReferenceIdeal.Gen.facts

/-- A named constant at bit-exact floats: its bits. -/
@[instance_reducible] def namedBits : Named Bits := ⟨fun _ _ {φ} b => Scalar.ofBits φ b⟩

section
attribute [local instance] namedBits

theorem kernel_body : Eq (α := Defs KernelIdeal.nD KernelIdeal.τ KernelIdeal.sig (Elt Bits) KernelIdeal.Λ₀) (Kernel.defs₀ (F := Bits)) (KernelIdeal.defs₀ (F := Bits)) := by
  funext p l a
  have hl : l = 0 := Subsingleton.elim (α := Fin 1) _ _
  subst hl
  cases p <;> with_unfolding_all rfl

theorem kernel_defs : Eq (α := Defs KernelIdeal.nD KernelIdeal.τ KernelIdeal.sig (Elt Bits) (Pipeline.Sig KernelIdeal.Λ₀ (Fin 1) fun p => (KernelIdeal.pcfgs (F := Bits) p).Adm))
    (Kernel.defs (F := Bits)) (KernelIdeal.defs (F := Bits)) :=
  congrArg (Pipeline.defs (KernelIdeal.pcfgs (F := Bits))) kernel_body

theorem frame_kernel : quiescent_Kernel := by
  intro m g _
  have h := KernelIdeal.Mesh.run_args (F := Bits) m g
  rw [← kernel_defs] at h
  exact h
end

theorem frame_ideal : quiescent_KernelIdeal := fun m g _ => KernelIdeal.Mesh.run_args (F := Ideal) m g

theorem frame_reference : quiescent_ReferenceIdeal := fun m g _ =>
  (θ_run (ReferenceIdeal.defs (F := Ideal)) _ _).mono (fun r h => ⟨fun c => (h c).2, sem_eq_zero_of_no_sems (by decide) r.2⟩) (ReferenceIdeal.Value.run (F := Ideal) m g)

theorem preserves : preserves_Kernel_KernelIdeal := IdealRules.named_const.statement _ _ _ _ _ rfl

end Cert

end
-- ==== Proof.Softmax.lean ====
module

public import Idealize.ShloMosaic.Lib.Pointwise

/-!
# A softmax taken in chunks

Over the extended reals with real scores: the running maximum, the running denominator and the running numerator of
a softmax taken chunk by chunk, and what the quotient at the end is. The values attended to may be infinite: a
nonnegative real factor distributes over any sum of extended reals.
-/

@[expose] public section

noncomputable section

namespace Cert.Softmax

open Idealize.ShloMosaic

/-- A nonnegative real factor passes into a sum of extended reals. -/
theorem mul_sum {ι : Type} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals, and at least one, over the extended reals is a real. -/
theorem fold_max_coe {n : ℕ} (hn : 0 < n) (f : Fin n → ℝ) : ∃ M : ℝ, Finset.univ.fold max (⊥ : EReal) (fun j => (f j : EReal)) = M := by
  classical
  have key : ∀ s : Finset (Fin n), s.Nonempty → ∃ M : ℝ, s.fold max (⊥ : EReal) (fun j => (f j : EReal)) = M := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ ⟨⟨0, hn⟩, Finset.mem_univ _⟩

/-- What the chunks before leave: the maximum so far M, the denominator and the numerator, both scaled by exp(−M). -/
structure Ran (A : ℝ) (B : EReal) (m l o : EReal) : Prop where
  ex : ∃ M : ℝ, m = M ∧ l = ((Real.exp (-M) * A : ℝ) : EReal) ∧ o = ((Real.exp (-M) : ℝ) : EReal) * B

section Step

variable {n : ℕ} (hn : 0 < n) (s : Fin n → ℝ) (v : Fin n → EReal)

/-- The sum of a chunk's weights, against its new maximum. -/
theorem weights (M : ℝ) : ∑ j, Ideal.exp ((s j : EReal) - (M : EReal)) = ((Real.exp (-M) * ∑ j, Real.exp (s j) : ℝ) : EReal) := by
  rw [Finset.mul_sum, ← coe_sum]
  refine Finset.sum_congr rfl fun j _ => ?_
  rw [← EReal.coe_sub, Ideal.exp_coe, ← Real.exp_add]
  congr 2; ring

/-- A chunk's weighted sum of values. -/
theorem weighted (M : ℝ) : ∑ j, v j * Ideal.exp ((s j : EReal) - (M : EReal)) = ((Real.exp (-M) : ℝ) : EReal) * ∑ j, ((Real.exp (s j) : ℝ) : EReal) * v j := by
  rw [mul_sum _ (Real.exp_pos _).le]
  refine Finset.sum_congr rfl fun j _ => ?_
  rw [← EReal.coe_sub, Ideal.exp_coe, mul_comm, ← mul_assoc, ← EReal.coe_mul, ← Real.exp_add]
  congr 3; ring

include hn in
/-- The first chunk: nothing before it, the running maximum still −∞. -/
theorem first (m' : EReal) (hm : m' = max ⊥ (Finset.univ.fold max (⊥ : EReal) fun j => (s j : EReal))) :
    Ran (∑ j, Real.exp (s j)) (∑ j, ((Real.exp (s j) : ℝ) : EReal) * v j) m'
      (0 * Ideal.exp (⊥ - m') + ∑ j, Ideal.exp ((s j : EReal) - m'))
      (0 * Ideal.exp (⊥ - m') + ∑ j, v j * Ideal.exp ((s j : EReal) - m')) := by
  obtain ⟨M, hM⟩ := fold_max_coe hn s
  have e : m' = (M : EReal) := by rw [hm, hM]; simp
  subst e
  exact ⟨M, rfl, by rw [zero_mul, zero_add, weights], by rw [zero_mul, zero_add, weighted]⟩

include hn in
/-- A later chunk. -/
theorem next {A : ℝ} {B m l o : EReal} (h : Ran A B m l o) (m' : EReal) (hm : m' = max m (Finset.univ.fold max (⊥ : EReal) fun j => (s j : EReal))) :
    Ran (A + ∑ j, Real.exp (s j)) (B + ∑ j, ((Real.exp (s j) : ℝ) : EReal) * v j) m'
      (l * Ideal.exp (m - m') + ∑ j, Ideal.exp ((s j : EReal) - m'))
      (o * Ideal.exp (m - m') + ∑ j, v j * Ideal.exp ((s j : EReal) - m')) := by
  obtain ⟨M, rfl, rfl, rfl⟩ := h.ex
  obtain ⟨N, hN⟩ := fold_max_coe hn s
  have e : m' = ((max M N : ℝ) : EReal) := by rw [hm, hN]; exact (EReal.coe_strictMono.monotone.map_max).symm
  generalize max M N = M' at e
  subst e
  refine ⟨M', rfl, ?_, ?_⟩
  · rw [weights, ← EReal.coe_sub, Ideal.exp_coe, ← EReal.coe_mul, ← EReal.coe_add, mul_right_comm, ← Real.exp_add, mul_add]
    congr 4; ring
  · rw [weighted, ← EReal.coe_sub, Ideal.exp_coe, mul_right_comm, ← EReal.coe_mul, ← Real.exp_add,
      EReal.left_distrib_of_nonneg_of_ne_top (by exact_mod_cast (Real.exp_pos _).le) (EReal.coe_ne_top _)]
    congr 4; ring

end Step

/-- The quotient at the end: the scaling cancels. -/
theorem done {A : ℝ} {B m l o : EReal} (hA : 0 < A) (h : Ran A B m l o) : Ideal.div o l = Ideal.div B (A : EReal) := by
  obtain ⟨M, rfl, rfl, rfl⟩ := h.ex
  have h1 : ((Real.exp (-M) * A : ℝ) : EReal) ≠ 0 := by exact_mod_cast (mul_pos (Real.exp_pos _) hA).ne'
  have h2 : ((A : ℝ) : EReal) ≠ 0 := by exact_mod_cast hA.ne'
  unfold Ideal.div
  rw [if_neg h1, if_neg h2, ← EReal.coe_inv, ← EReal.coe_inv, mul_comm _ B, mul_assoc, ← EReal.coe_mul]
  congr 2
  have := (Real.exp_pos (-M)).ne'
  field_simp

/-- Four chunks of a row, one after another, against the row at once. -/
theorem four {n : ℕ} (hn : 0 < n) (s : Fin 4 → Fin n → ℝ) (v : Fin 4 → Fin n → EReal) {m₁ m₂ m₃ m₄ l₁ l₂ l₃ l₄ o₁ o₂ o₃ o₄ : EReal}
    (hm₁ : m₁ = max ⊥ (Finset.univ.fold max (⊥ : EReal) fun j => (s 0 j : EReal)))
    (hm₂ : m₂ = max m₁ (Finset.univ.fold max (⊥ : EReal) fun j => (s 1 j : EReal)))
    (hm₃ : m₃ = max m₂ (Finset.univ.fold max (⊥ : EReal) fun j => (s 2 j : EReal)))
    (hm₄ : m₄ = max m₃ (Finset.univ.fold max (⊥ : EReal) fun j => (s 3 j : EReal)))
    (hl₁ : l₁ = 0 * Ideal.exp (⊥ - m₁) + ∑ j, Ideal.exp ((s 0 j : EReal) - m₁))
    (hl₂ : l₂ = l₁ * Ideal.exp (m₁ - m₂) + ∑ j, Ideal.exp ((s 1 j : EReal) - m₂))
    (hl₃ : l₃ = l₂ * Ideal.exp (m₂ - m₃) + ∑ j, Ideal.exp ((s 2 j : EReal) - m₃))
    (hl₄ : l₄ = l₃ * Ideal.exp (m₃ - m₄) + ∑ j, Ideal.exp ((s 3 j : EReal) - m₄))
    (ho₁ : o₁ = 0 * Ideal.exp (⊥ - m₁) + ∑ j, v 0 j * Ideal.exp ((s 0 j : EReal) - m₁))
    (ho₂ : o₂ = o₁ * Ideal.exp (m₁ - m₂) + ∑ j, v 1 j * Ideal.exp ((s 1 j : EReal) - m₂))
    (ho₃ : o₃ = o₂ * Ideal.exp (m₂ - m₃) + ∑ j, v 2 j * Ideal.exp ((s 2 j : EReal) - m₃))
    (ho₄ : o₄ = o₃ * Ideal.exp (m₃ - m₄) + ∑ j, v 3 j * Ideal.exp ((s 3 j : EReal) - m₄)) :
    Ideal.div o₄ l₄ = Ideal.div (∑ t, ∑ j, ((Real.exp (s t j) : ℝ) : EReal) * v t j) ((∑ t, ∑ j, Real.exp (s t j) : ℝ) : EReal) := by
  have r₁ := first hn (s 0) (v 0) m₁ hm₁
  rw [← hl₁, ← ho₁] at r₁
  have r₂ := next hn (s 1) (v 1) r₁ m₂ hm₂
  rw [← hl₂, ← ho₂] at r₂
  have r₃ := next hn (s 2) (v 2) r₂ m₃ hm₃
  rw [← hl₃, ← ho₃] at r₃
  have r₄ := next hn (s 3) (v 3) r₃ m₄ hm₄
  rw [← hl₄, ← ho₄] at r₄
  rw [Fin.sum_univ_four, Fin.sum_univ_four]
  refine done ?_ r₄
  have hp : ∀ t, 0 < ∑ j, Real.exp (s t j) := fun t => Finset.sum_pos (fun j _ => Real.exp_pos _) ⟨⟨0, hn⟩, Finset.mem_univ _⟩
  have := hp 0; have := hp 1; have := hp 2; have := hp 3
  positivity

/-- A power of two of a score scaled by 1/ln 2 is the exponential of the score. -/
theorem exp2_scaled (x y : ℝ) (h : x = y * (Real.log 2)⁻¹) : Ideal.exp2 (x : EReal) = ((Real.exp y : ℝ) : EReal) := by
  rw [Ideal.exp2_coe, h]
  congr 1
  show (2 : ℝ) ^ (y * (Real.log 2)⁻¹) = Real.exp y
  have h2 : Real.log 2 ≠ 0 := (Real.log_pos (by norm_num)).ne'
  rw [Real.rpow_def_of_pos (by norm_num)]
  congr 1
  field_simp

/-! ## One row attended -/

/-- The factor on the scores: the single-precision value nearest to 128^(−1/2). -/
def sigma : ℝ := 11863283 * 134217728⁻¹

theorem sigma_bits : Ideal.ofBits .f32 0x3DB504F3#32 = (sigma : EReal) := by
  unfold sigma
  simp [Ideal.ofBits, Ideal.ieee, -EReal.coe_mul]; norm_num

/-- A query against key j. -/
def score (q : Fin 128 → ℝ) (k : Fin 4096 → Fin 128 → ℝ) (j : Fin 4096) : ℝ := (∑ e, q e * k j e) * sigma

/-- A query's attention to one column of values. -/
def attend (q : Fin 128 → ℝ) (k : Fin 4096 → Fin 128 → ℝ) (v : Fin 4096 → EReal) : EReal :=
  Ideal.div (∑ j, ((Real.exp (score q k j) : ℝ) : EReal) * v j) ((∑ j, Real.exp (score q k j) : ℝ) : EReal)

/-- A sum of products of reals, over the extended reals, is their sum of products. -/
theorem coe_dot {ι : Type} [Fintype ι] (f g : ι → ℝ) : ∑ i, (f i : EReal) * (g i : EReal) = ((∑ i, f i * g i : ℝ) : EReal) := by
  rw [← coe_sum]
  exact Finset.sum_congr rfl fun i _ => (EReal.coe_mul _ _).symm

end Cert.Softmax

end
-- ==== Proof.Heads.lean ====
module

public import proofs.«01_k».proof.Proof.Own
public import proofs.«01_k».proof.Proof.Softmax
public import Idealize.ShloMosaic.Lib.VecWindow
public import Idealize.ShloMosaic.Lib.Pointwise

/-!
# The eight heads of one device, read element by element

Each head adds the product of its attended values with its rows of the output projection to the result buffer. The heads differ
only in the columns of the queries, the rows of the projection and the keys and values that they read.
-/

@[expose] public section

noncomputable section

namespace Cert.KernelIdeal.Mesh

open Cert.KernelIdeal Cert.KernelIdeal.Gen
open Idealize.ShloMosaic
open Idealize.ShloMosaic.TcCoe
open Idealize.SL.Sem

attribute [local instance] Cert.KernelIdeal.Gen.facts

/-! ## What the copies bring -/

section Slots

variable {F : FTy → Type} [FloatOps F] [Named F]

/-- A load from a buffer's slot after a copy into it is what was copied last. -/
theorem slot_load (M : Memref sig .tc .vmem S3x4096x128 .f32) (s : ℕ) (h : ∀ a, (![s, 0, 0] : Fin 3 → ℕ) a + S1x4096x128.size a ≤ S3x4096x128.size a)
    (f : (bslot M s h).view.ty.Contents (Elt F)) (w : S4096x128.Idx → Elt F .f32) (L : List (View.Piece (Elt F) S4096x128 .f32)) :
    shapeCast S4096x128 (M.view.readAt (Elt F) (Rect.unit (s := S3x4096x128) ![s, 0, 0] S1x4096x128.size h).toLoadRect
      ((bslot M s h).view.writes (Elt F) f (⟨Rect.whole S4096x128, w⟩ :: L))) shapeCasts_S1x4096x128_S4096x128 = w :=
  View.read_writes_full (bslot M s h).view f _ w L

/-- One head of the keys or of the values, as the copy reads it. -/
def headOf (o : ℕ) (h : ∀ a, (![0, 0, o, 0] : Fin 4 → ℕ) a + S1x4096x1x128.size a ≤ S1x4096x8x128.size a)
    (k : FVec F S1x4096x8x128 .f32) : FVec F S4096x128 .f32 :=
  shapeCast S4096x128 (fun i : S1x4096x1x128.Idx => k ((Rect.unit (s := S1x4096x8x128) ![0, 0, o, 0] S1x4096x1x128.size h).emb i)) (by decide)

end Slots

/-! ## One head -/

section Head

variable {F : FTy → Type} [FloatOps F] [Named F]
variable (o : ℕ) (hq : S256x1024.Slices ![0, o] S256x128) (ho : S1024x1024.Slices ![o, 0] S128x1024)

/-- The weights of one head, not yet divided by their sum. -/
def headWeights (qb : FVec F S256x1024 .bf16) (k : FVec F S4096x128 .f32) : FVec F S256x4096 .bf16 :=
  truncf .bf16 (exp2 (matmul dot_S256x128_S4096x128_S256x4096_1_1_0_0_n_n none (extractStridedSlice S256x128 ![0, o] qb hq)
    (truncf .bf16 k bitsLt_bf16_f32) (constant S256x4096 .f32 0x00000000#32))) bitsLt_bf16_f32

/-- What one head adds to the result. -/
def headRows (wo : FVec F S1024x1024 .bf16) (qb : FVec F S256x1024 .bf16) (k v : FVec F S4096x128 .f32) : FVec F S256x1024 .f32 :=
  matmul dot_S256x128_S128x1024_S256x1024_1_0_0_1_n_n none
    (truncf .bf16 (divf
      (matmul dot_S256x4096_S4096x128_S256x128_1_0_0_1_n_n none (headWeights o hq qb k) (truncf .bf16 v bitsLt_bf16_f32) (constant S256x128 .f32 0x00000000#32))
      (broadcastTo S256x128 (extractStridedSlice S256x1 ![0, 0]
        (matmul dot_S256x4096_S4096x8_S256x8_1_0_0_1_n_n none (headWeights o hq qb k) (broadcast S4096x8 (FloatOps.ofBits .bf16 16256#16)) (constant S256x8 .f32 0x00000000#32))
        slices_S256x8_o0_0_S256x1) broadcasts_S256x1_S256x128)) bitsLt_bf16_f32)
    (extractStridedSlice S128x1024 ![o, 0] wo ho) (constant S256x1024 .f32 0x00000000#32)

/-- The result buffer after one more head. -/
def headAdd (w : FVec F S1x256x1024 .f32) (r : FVec F S256x1024 .f32) : FVec F S1x256x1024 .f32 :=
  shapeCast S1x256x1024 (addf (shapeCast S256x1024 w shapeCasts_S1x256x1024_S256x1024) r) shapeCasts_S256x1024_S1x256x1024

end Head

theorem headWeights_apply (o : ℕ) (hq : S256x1024.Slices ![0, o] S256x128) (ho : o + 128 ≤ 1024) (qb : FVec Ideal S256x1024 .bf16) (k : FVec Ideal S4096x128 .f32) (i : Fin 256) (j : Fin 4096) :
    headWeights o hq qb k (ix2 i j) = Ideal.exp2 (∑ e : Fin 128, qb (ix2 i ⟨o + e.val, by omega⟩) * k (ix2 j e)) := by
  pointwise [headWeights]
  rfl

theorem headRows_apply (o : ℕ) (hq : S256x1024.Slices ![0, o] S256x128) (ho : S1024x1024.Slices ![o, 0] S128x1024) (hb : o + 128 ≤ 1024)
    (wo : FVec Ideal S1024x1024 .bf16) (qb : FVec Ideal S256x1024 .bf16) (k v : FVec Ideal S4096x128 .f32) (i : Fin 256) (n : Fin 1024) :
    headRows o hq ho wo qb k v (ix2 i n) = ∑ e : Fin 128,
      Ideal.div (∑ j : Fin 4096, headWeights o hq qb k (ix2 i j) * v (ix2 j e)) (∑ j : Fin 4096, headWeights o hq qb k (ix2 i j) * Ideal.ofBits .bf16 16256#16)
        * wo (ix2 ⟨o + e.val, by omega⟩ n) := by
  pointwise [headRows]

theorem headAdd_apply (w : FVec Ideal S1x256x1024 .f32) (r : FVec Ideal S256x1024 .f32) (i : Fin 256) (n : Fin 1024) :
    headAdd w r (ix3 0 i n) = w (ix3 0 i n) + r (ix2 i n) := by
  pointwise [headAdd]

theorem headOf_apply (o : ℕ) (h : ∀ a, (![0, 0, o, 0] : Fin 4 → ℕ) a + S1x4096x1x128.size a ≤ S1x4096x8x128.size a) (ho : o < 8)
    (k : FVec Ideal S1x4096x8x128 .f32) (j : Fin 4096) (e : Fin 128) : headOf o h k (ix2 j e) = k (ix4 0 j ⟨o, ho⟩ e) := by
  pointwise [headOf]
  refine congrArg k (funext fun a => Fin.ext ?_)
  rw [Rect.emb_apply]
  fin_cases a <;> simp

/-! ## The chain of the eight heads -/

section Chain

variable {F : FTy → Type} [FloatOps F] [Named F]
variable (wo : FVec F S1024x1024 .bf16) (qb : FVec F S256x1024 .bf16) (k v : FVec F S1x4096x8x128 .f32)

/-- The part of one head, with the keys and values that its copies bring. -/
def headPart (o : ℕ) (hq : S256x1024.Slices ![0, o * 128] S256x128) (ho : S1024x1024.Slices ![o * 128, 0] S128x1024)
    (hk : ∀ a, (![0, 0, o, 0] : Fin 4 → ℕ) a + S1x4096x1x128.size a ≤ S1x4096x8x128.size a) : FVec F S256x1024 .f32 :=
  headRows (o * 128) hq ho wo qb (headOf o hk k) (headOf o hk v)

theorem load_k1 : shapeCast S4096x128 (headsOut.sl.v109 k) shapeCasts_S1x4096x128_S4096x128 = headOf 0 (by decide) k := (slot_load kbM 0 _ _ _ _).trans rfl
theorem load_v1 : shapeCast S4096x128 (headsOut.sl.v121 v) shapeCasts_S1x4096x128_S4096x128 = headOf 0 (by decide) v := (slot_load vbM 0 _ _ _ _).trans rfl
theorem load_k2 : shapeCast S4096x128 (headsOut.sl.v154 k) shapeCasts_S1x4096x128_S4096x128 = headOf 1 (by decide) k := (slot_load kbM 1 _ _ _ _).trans rfl
theorem load_v2 : shapeCast S4096x128 (headsOut.sl.v166 v) shapeCasts_S1x4096x128_S4096x128 = headOf 1 (by decide) v := (slot_load vbM 1 _ _ _ _).trans rfl
theorem load_k3 : shapeCast S4096x128 (headsOut.sl.v202 k) shapeCasts_S1x4096x128_S4096x128 = headOf 2 (by decide) k := (slot_load kbM 2 _ _ _ _).trans rfl
theorem load_v3 : shapeCast S4096x128 (headsOut.sl.v214 v) shapeCasts_S1x4096x128_S4096x128 = headOf 2 (by decide) v := (slot_load vbM 2 _ _ _ _).trans rfl
theorem load_k4 : shapeCast S4096x128 (headsOut.sl.v250 k) shapeCasts_S1x4096x128_S4096x128 = headOf 3 (by decide) k := (slot_load kbM 0 _ _ _ _).trans rfl
theorem load_v4 : shapeCast S4096x128 (headsOut.sl.v262 v) shapeCasts_S1x4096x128_S4096x128 = headOf 3 (by decide) v := (slot_load vbM 0 _ _ _ _).trans rfl
theorem load_k5 : shapeCast S4096x128 (headsOut.sl.v298 k) shapeCasts_S1x4096x128_S4096x128 = headOf 4 (by decide) k := (slot_load kbM 1 _ _ _ _).trans rfl
theorem load_v5 : shapeCast S4096x128 (headsOut.sl.v310 v) shapeCasts_S1x4096x128_S4096x128 = headOf 4 (by decide) v := (slot_load vbM 1 _ _ _ _).trans rfl
theorem load_k6 : shapeCast S4096x128 (headsOut.sl.v346 k) shapeCasts_S1x4096x128_S4096x128 = headOf 5 (by decide) k := (slot_load kbM 2 _ _ _ _).trans rfl
theorem load_v6 : shapeCast S4096x128 (headsOut.sl.v358 v) shapeCasts_S1x4096x128_S4096x128 = headOf 5 (by decide) v := (slot_load vbM 2 _ _ _ _).trans rfl
theorem load_k7 : shapeCast S4096x128 (headsOut.sl.v394 k) shapeCasts_S1x4096x128_S4096x128 = headOf 6 (by decide) k := (slot_load kbM 0 _ _ _ _).trans rfl
theorem load_v7 : shapeCast S4096x128 (headsOut.sl.v406 v) shapeCasts_S1x4096x128_S4096x128 = headOf 6 (by decide) v := (slot_load vbM 0 _ _ _ _).trans rfl
theorem load_k8 : shapeCast S4096x128 (headsOut.sl.v430 k) shapeCasts_S1x4096x128_S4096x128 = headOf 7 (by decide) k := (slot_load kbM 1 _ _ _ _).trans rfl
theorem load_v8 : shapeCast S4096x128 (headsOut.sl.v442 v) shapeCasts_S1x4096x128_S4096x128 = headOf 7 (by decide) v := (slot_load vbM 1 _ _ _ _).trans rfl

theorem heads_one : headsOut.sl.v177 wo qb k v = shapeCast S1x256x1024 (headPart wo qb k v 0 slices_S256x1024_o0_0_S256x128 slices_S1024x1024_o0_0_S128x1024 (by decide)) shapeCasts_S256x1024_S1x256x1024 := by
  refine (View.readCov_cons_toLoadRect _ _ _ _).trans ?_
  refine Eq.trans (b := shapeCast S1x256x1024 (headRows 0 slices_S256x1024_o0_0_S256x128 slices_S1024x1024_o0_0_S128x1024 wo qb (shapeCast S4096x128 (headsOut.sl.v109 k) shapeCasts_S1x4096x128_S4096x128) (shapeCast S4096x128 (headsOut.sl.v121 v) shapeCasts_S1x4096x128_S4096x128)) shapeCasts_S256x1024_S1x256x1024) rfl ?_
  rw [load_k1, load_v1]
  rfl
theorem heads_two : headsOut.sl.v225 wo qb k v = headAdd (headsOut.sl.v177 wo qb k v) (headPart wo qb k v 1 slices_S256x1024_o0_128_S256x128 slices_S1024x1024_o128_0_S128x1024 (by decide)) := by
  refine (View.readCov_cons_toLoadRect _ _ _ _).trans ?_
  refine Eq.trans (b := headAdd (headsOut.sl.v177 wo qb k v) (headRows 128 slices_S256x1024_o0_128_S256x128 slices_S1024x1024_o128_0_S128x1024 wo qb (shapeCast S4096x128 (headsOut.sl.v154 k) shapeCasts_S1x4096x128_S4096x128) (shapeCast S4096x128 (headsOut.sl.v166 v) shapeCasts_S1x4096x128_S4096x128))) rfl ?_
  rw [load_k2, load_v2]
  rfl
theorem heads_three : headsOut.sl.v273 wo qb k v = headAdd (headsOut.sl.v225 wo qb k v) (headPart wo qb k v 2 slices_S256x1024_o0_256_S256x128 slices_S1024x1024_o256_0_S128x1024 (by decide)) := by
  refine (View.readCov_cons_toLoadRect _ _ _ _).trans ?_
  refine Eq.trans (b := headAdd (headsOut.sl.v225 wo qb k v) (headRows 256 slices_S256x1024_o0_256_S256x128 slices_S1024x1024_o256_0_S128x1024 wo qb (shapeCast S4096x128 (headsOut.sl.v202 k) shapeCasts_S1x4096x128_S4096x128) (shapeCast S4096x128 (headsOut.sl.v214 v) shapeCasts_S1x4096x128_S4096x128))) rfl ?_
  rw [load_k3, load_v3]
  rfl
theorem heads_four : headsOut.sl.v321 wo qb k v = headAdd (headsOut.sl.v273 wo qb k v) (headPart wo qb k v 3 slices_S256x1024_o0_384_S256x128 slices_S1024x1024_o384_0_S128x1024 (by decide)) := by
  refine (View.readCov_cons_toLoadRect _ _ _ _).trans ?_
  refine Eq.trans (b := headAdd (headsOut.sl.v273 wo qb k v) (headRows 384 slices_S256x1024_o0_384_S256x128 slices_S1024x1024_o384_0_S128x1024 wo qb (shapeCast S4096x128 (headsOut.sl.v250 k) shapeCasts_S1x4096x128_S4096x128) (shapeCast S4096x128 (headsOut.sl.v262 v) shapeCasts_S1x4096x128_S4096x128))) rfl ?_
  rw [load_k4, load_v4]
  rfl
theorem heads_five : headsOut.sl.v369 wo qb k v = headAdd (headsOut.sl.v321 wo qb k v) (headPart wo qb k v 4 slices_S256x1024_o0_512_S256x128 slices_S1024x1024_o512_0_S128x1024 (by decide)) := by
  refine (View.readCov_cons_toLoadRect _ _ _ _).trans ?_
  refine Eq.trans (b := headAdd (headsOut.sl.v321 wo qb k v) (headRows 512 slices_S256x1024_o0_512_S256x128 slices_S1024x1024_o512_0_S128x1024 wo qb (shapeCast S4096x128 (headsOut.sl.v298 k) shapeCasts_S1x4096x128_S4096x128) (shapeCast S4096x128 (headsOut.sl.v310 v) shapeCasts_S1x4096x128_S4096x128))) rfl ?_
  rw [load_k5, load_v5]
  rfl
theorem heads_six : headsOut.sl.v417 wo qb k v = headAdd (headsOut.sl.v369 wo qb k v) (headPart wo qb k v 5 slices_S256x1024_o0_640_S256x128 slices_S1024x1024_o640_0_S128x1024 (by decide)) := by
  refine (View.readCov_cons_toLoadRect _ _ _ _).trans ?_
  refine Eq.trans (b := headAdd (headsOut.sl.v369 wo qb k v) (headRows 640 slices_S256x1024_o0_640_S256x128 slices_S1024x1024_o640_0_S128x1024 wo qb (shapeCast S4096x128 (headsOut.sl.v346 k) shapeCasts_S1x4096x128_S4096x128) (shapeCast S4096x128 (headsOut.sl.v358 v) shapeCasts_S1x4096x128_S4096x128))) rfl ?_
  rw [load_k6, load_v6]
  rfl
theorem heads_seven : headsOut.sl.v453 wo qb k v = headAdd (headsOut.sl.v417 wo qb k v) (headPart wo qb k v 6 slices_S256x1024_o0_768_S256x128 slices_S1024x1024_o768_0_S128x1024 (by decide)) := by
  refine (View.readCov_cons_toLoadRect _ _ _ _).trans ?_
  refine Eq.trans (b := headAdd (headsOut.sl.v417 wo qb k v) (headRows 768 slices_S256x1024_o0_768_S256x128 slices_S1024x1024_o768_0_S128x1024 wo qb (shapeCast S4096x128 (headsOut.sl.v394 k) shapeCasts_S1x4096x128_S4096x128) (shapeCast S4096x128 (headsOut.sl.v406 v) shapeCasts_S1x4096x128_S4096x128))) rfl ?_
  rw [load_k7, load_v7]
  rfl
theorem heads_eight : headsOut.sl.v459 wo qb k v = headAdd (headsOut.sl.v453 wo qb k v) (headPart wo qb k v 7 slices_S256x1024_o0_896_S256x128 slices_S1024x1024_o896_0_S128x1024 (by decide)) := by
  refine (View.readCov_cons_toLoadRect _ _ _ _).trans ?_
  refine Eq.trans (b := headAdd (headsOut.sl.v453 wo qb k v) (headRows 896 slices_S256x1024_o0_896_S256x128 slices_S1024x1024_o896_0_S128x1024 wo qb (shapeCast S4096x128 (headsOut.sl.v430 k) shapeCasts_S1x4096x128_S4096x128) (shapeCast S4096x128 (headsOut.sl.v442 v) shapeCasts_S1x4096x128_S4096x128))) rfl ?_
  rw [load_k8, load_v8]
  rfl

end Chain

/-! ## The sum of the eight heads -/

theorem scaled_scores (q : Fin 128 → ℝ) (kr : Fin 4096 → Fin 128 → ℝ) (j : Fin 4096) :
    Ideal.exp2 (∑ e : Fin 128, ((q e * (Softmax.sigma * (Real.log 2)⁻¹) : ℝ) : EReal) * ((kr j e : ℝ) : EReal)) = ((Real.exp (Softmax.score q kr j) : ℝ) : EReal) := by
  rw [Softmax.coe_dot]
  refine Softmax.exp2_scaled _ _ ?_
  unfold Softmax.score
  rw [Finset.sum_mul, Finset.sum_mul]
  exact Finset.sum_congr rfl fun e _ => by ring

section Sum

variable (wo : FVec Ideal S1024x1024 .bf16) (qb : FVec Ideal S256x1024 .bf16) (k v : FVec Ideal S1x4096x8x128 .f32)
variable (q : Fin 256 → Fin 1024 → ℝ) (kr : Fin 4096 → Fin 8 → Fin 128 → ℝ)

/-- One head's product with its rows of the output projection. -/
def headSum (h : Fin 8) (i : Fin 256) (n : Fin 1024) : EReal :=
  ∑ e : Fin 128, Softmax.attend (fun e => q i ⟨h.val * 128 + e.val, by omega⟩) (fun j e => kr j h e) (fun j => v (ix4 0 j h e))
    * wo (ix2 ⟨h.val * 128 + e.val, by omega⟩ n)

theorem headPart_apply (hqb : ∀ i t, qb (ix2 i t) = ((q i t * (Softmax.sigma * (Real.log 2)⁻¹) : ℝ) : EReal))
    (hk : ∀ j h e, k (ix4 0 j h e) = ((kr j h e : ℝ) : EReal)) (o : ℕ) (h8 : o < 8) (hs) (hr) (hb) (i : Fin 256) (n : Fin 1024) :
    headPart wo qb k v o hs hr hb (ix2 i n) = headSum wo v q kr ⟨o, h8⟩ i n := by
  have hw : ∀ j, headWeights (o * 128) hs qb (headOf o hb k) (ix2 i j)
      = ((Real.exp (Softmax.score (fun e => q i ⟨o * 128 + e.val, by omega⟩) (fun j e => kr j ⟨o, h8⟩ e) j) : ℝ) : EReal) := by
    intro j
    rw [headWeights_apply (o * 128) hs (by omega), ← scaled_scores]
    refine congrArg _ (Finset.sum_congr rfl fun e _ => ?_)
    rw [hqb, headOf_apply o hb h8, hk]
  unfold headSum
  refine (headRows_apply (o * 128) hs hr (by omega) wo qb _ _ i n).trans ?_
  refine Finset.sum_congr rfl fun e _ => congrArg (· * _) ?_
  unfold Softmax.attend
  refine congrArg₂ Ideal.div (Finset.sum_congr rfl fun j _ => ?_) ?_
  · rw [hw, headOf_apply o hb h8]
  · rw [← Softmax.coe_sum]
    refine Finset.sum_congr rfl fun j _ => ?_
    rw [hw, Ideal.ofBits_one_bf16, mul_one]

theorem heads_apply (hqb : ∀ i t, qb (ix2 i t) = ((q i t * (Softmax.sigma * (Real.log 2)⁻¹) : ℝ) : EReal))
    (hk : ∀ j h e, k (ix4 0 j h e) = ((kr j h e : ℝ) : EReal)) (i : Fin 256) (n : Fin 1024) :
    headsOut.sl.v459 wo qb k v (ix3 0 i n) = ∑ h : Fin 8, headSum wo v q kr h i n := by
  rw [heads_eight, headAdd_apply, heads_seven, headAdd_apply, heads_six, headAdd_apply, heads_five, headAdd_apply, heads_four, headAdd_apply,
    heads_three, headAdd_apply, heads_two, headAdd_apply, heads_one]
  rw [show ∀ r : FVec Ideal S256x1024 .f32, shapeCast S1x256x1024 r shapeCasts_S256x1024_S1x256x1024 (ix3 0 i n) = r (ix2 i n) from fun r => by pointwise]
  have part := headPart_apply wo qb k v q kr hqb hk
  rw [part 0 (by decide), part 1 (by decide), part 2 (by decide), part 3 (by decide), part 4 (by decide), part 5 (by decide), part 6 (by decide),
    part 7 (by decide), Fin.sum_univ_eight]
  rfl

end Sum

end Cert.KernelIdeal.Mesh

end
-- ==== Proof.OwnVal.lean ====
module

public import proofs.«01_k».proof.Proof.Heads
public import proofs.«01_k».proof.Proof.Body

/-!
# One device's partial result, read element by element

Its partial block in its result buffer, and the same narrowed in the buffer that it sends from, are the sum of its eight heads.
-/

@[expose] public section

noncomputable section

namespace Cert.KernelIdeal.Mesh

open Cert.KernelIdeal Cert.KernelIdeal.Gen
open Idealize.ShloMosaic
open Idealize.ShloMosaic.TcCoe
open Idealize.SL.Sem

attribute [local instance] Cert.KernelIdeal.Gen.facts

theorem load_wo (wo : FVec Ideal S1024x1024 .f32) : View.readAt (Elt Ideal) woM.view (Rect.unit (s := S1024x1024) ![0, 0] S1024x1024.size inb_S1024x1024_S1024x1024_0_0).toLoadRect wo = wo :=
  Memref.readAt_unit_zero _ _ (by decide) _ _
theorem load_wq (wq : FVec Ideal S1024x1024 .f32) : View.readAt (Elt Ideal) wqM.view (Rect.unit (s := S1024x1024) ![0, 0] S1024x1024.size inb_S1024x1024_S1024x1024_0_0).toLoadRect wq = wq :=
  Memref.readAt_unit_zero _ _ (by decide) _ _
theorem load_x (x : FVec Ideal S1x256x1024 .f32) : View.readAt (Elt Ideal) xM.view (Rect.unit (s := S1x256x1024) ![0, 0, 0] S1x256x1024.size inb_S1x256x1024_S1x256x1024_0_0_0).toLoadRect x = x :=
  Memref.readAt_unit_zero _ _ (by decide) _ _

theorem buffer_p (w : FVec Ideal S256x1024 .bf16) :
    (View.whole cc0_scratch3).writes (Elt Ideal) (View.whole cc0_scratch3).junk [⟨Rect.unit (s := S256x1024) ![0, 0] S256x1024.size inb_S256x1024_S256x1024_0_0, w⟩] = w := by
  refine (Memref.readAt_unit_zero (Elt Ideal) cc0_scratch3 (by decide) inb_S256x1024_S256x1024_0_0 _).symm.trans ?_
  exact View.readCov_cons_toLoadRect _ _ _ _

theorem narrow_wo (wo : FVec Ideal S1024x1024 .f32) (a b : Fin 1024) : k0_pay1 (F := Ideal) wo (ix2 a b) = wo (ix2 a b) := by
  pointwise [k0_pay1]

theorem sent_read (w : FVec Ideal S256x1024 .f32) (i : Fin 256) (n : Fin 1024) : k0_pay21 (F := Ideal) w (ix2 i n) = w (ix2 i n) := by
  pointwise [k0_pay21]
theorem result_read (w : FVec Ideal S1x256x1024 .f32) (i : Fin 256) (n : Fin 1024) : k0_pay20 (F := Ideal) w (ix2 i n) = w (ix3 0 i n) := by
  pointwise [k0_pay20]

theorem scale_value : Named.named (F := Ideal) (φ := .f32) κ "scale_log2e" 0x3E0293EE#32 = ((Softmax.sigma * (Real.log 2)⁻¹ : ℝ) : EReal) :=
  IdealRules.named_const.ideal_named_scalar _ _ _ _ rfl

theorem queries_scaled (x : FVec Ideal S1x256x1024 .f32) (wq : FVec Ideal S1024x1024 .f32) (xr : Fin 256 → Fin 1024 → ℝ) (wr : Fin 1024 → Fin 1024 → ℝ)
    (hx : ∀ i d, x (ix3 0 i d) = ((xr i d : ℝ) : EReal)) (hw : ∀ d t, wq (ix2 d t) = ((wr d t : ℝ) : EReal)) (i : Fin 256) (t : Fin 1024) :
    k0_pay2 (F := Ideal) x wq (ix2 i t) = (((∑ d, xr i d * wr d t) * (Softmax.sigma * (Real.log 2)⁻¹) : ℝ) : EReal) := by
  have e : k0_pay2 (F := Ideal) x wq (ix2 i t) = (∑ d : Fin 1024, x (ix3 0 i d) * wq (ix2 d t)) * Named.named (F := Ideal) (φ := .f32) κ "scale_log2e" 0x3E0293EE#32 := by
    pointwise [k0_pay2]
  rw [e, scale_value, Finset.sum_congr rfl fun d _ => congrArg₂ (· * ·) (hx i d) (hw d t), Softmax.coe_dot, ← EReal.coe_mul]

section Out

variable (x : FVec Ideal S1x256x1024 .f32) (wq wo : FVec Ideal S1024x1024 .f32) (k v : FVec Ideal S1x4096x8x128 .f32)
variable (xr : Fin 256 → Fin 1024 → ℝ) (wr : Fin 1024 → Fin 1024 → ℝ) (kr : Fin 4096 → Fin 8 → Fin 128 → ℝ)
variable (hx : ∀ i d, x (ix3 0 i d) = ((xr i d : ℝ) : EReal)) (hw : ∀ d t, wq (ix2 d t) = ((wr d t : ℝ) : EReal))
variable (hk : ∀ j h e, k (ix4 0 j h e) = ((kr j h e : ℝ) : EReal))

/-- The sum of a device's heads. -/
def partSum (i : Fin 256) (n : Fin 1024) : EReal :=
  ∑ h : Fin 8, headSum wo v (fun i t => ∑ d, xr i d * wr d t) kr h i n

include hx hw hk

theorem chain_apply (i : Fin 256) (n : Fin 1024) :
    headsOut.sl.v459 (F := Ideal) (k0_pay1 wo) (k0_pay2 x wq) k v (ix3 0 i n) = partSum wo v xr wr kr i n := by
  rw [heads_apply (k0_pay1 wo) (k0_pay2 x wq) k v (fun i t => ∑ d, xr i d * wr d t) kr (queries_scaled x wq xr wr hx hw) hk]
  unfold partSum headSum
  exact Finset.sum_congr rfl fun h _ => Finset.sum_congr rfl fun e _ => congrArg _ (narrow_wo _ _ _)

theorem own_apply (i : Fin 256) (n : Fin 1024) : (ownOut (F := Ideal) x wq wo k v).1.2 (ix3 0 i n) = partSum wo v xr wr kr i n := by
  rw [← chain_apply x wq wo k v xr wr kr hx hw hk]
  unfold ownOut headsOut
  dsimp only
  rw [load_wo, load_wq, load_x]
  exact (congrFun (Memref.readAt_unit_zero (Elt Ideal) cc0_stg3_0 (by decide) inb_S1x256x1024_S1x256x1024_0_0_0 _) _).symm

theorem sent_apply (i : Fin 256) (n : Fin 1024) : (ownOut (F := Ideal) x wq wo k v).1.1 (ix2 i n) = partSum wo v xr wr kr i n := by
  rw [← chain_apply x wq wo k v xr wr kr hx hw hk]
  have e : (ownOut (F := Ideal) x wq wo k v).1.1 = (k0_pay21 (F := Ideal) (headsOut (F := Ideal) (k0_pay1 wo) (k0_pay2 x wq) k v).1.1 : FVec Ideal S256x1024 .bf16) := by
    unfold ownOut
    dsimp only
    unfold ownOut.sl.Hp_1
    rw [load_wo, load_wq, load_x]
    exact buffer_p _
  rw [e]
  refine (sent_read _ i n).trans ?_
  unfold headsOut
  dsimp only
  exact result_read _ i n

end Out

end Cert.KernelIdeal.Mesh

end
-- ==== Proof.ExchVal.lean ====
module

public import proofs.«01_k».proof.Proof.OwnVal
public import proofs.«01_k».proof.Proof.Memory

/-!
# The exchange, read element by element

After both exchanges every row of the result is the sum of the sixteen devices' partial rows, on every device.
-/

@[expose] public section

noncomputable section

namespace Cert.KernelIdeal.Mesh

open Cert.KernelIdeal Cert.KernelIdeal.Gen
open Idealize.ShloMosaic
open Idealize.ShloMosaic.TcCoe
open Idealize.SL.Sem

attribute [local instance] Cert.KernelIdeal.Gen.facts

/-- Row a of the rows that device d reduces. -/
def rowAt (d : Dev nD) (a : Fin 16) : Fin 256 := ⟨16 * d.val + a.val, by have := d.isLt; have : d.val < 16 := this; omega⟩

theorem rowAt_split (i : Fin 256) : ∃ (d : Dev nD) (a : Fin 16), rowAt d a = i :=
  ⟨⟨i.val / 16, show i.val / 16 < 16 by omega⟩, ⟨i.val % 16, by omega⟩, Fin.ext (Nat.div_add_mod _ _)⟩

/-! ## Where the rows lie -/

theorem rows_emb (c : Dev nD) (r : Fin 15) (a : Fin 16) (b : Fin 1024) : (rows c r).view.emb (ix2 a b) = (ix2 (rowAt (peer c r) a) b : S256x1024.Idx) := by
  show (Rect.unit (s := S256x1024) (k0_off1 c (BitVec.ofNat 32 (1 + r.val))) S16x1024.size (k0_off1_inb c r)).idx (ix2 a b) = _
  funext d
  apply Fin.ext
  show k0_off1 c (BitVec.ofNat 32 (1 + r.val)) d + 1 * (ix2 a b d).val = _
  rw [k0_off1_eq]
  fin_cases d
  · show 16 * (peer c r).val + 1 * a.val = 16 * (peer c r).val + a.val; omega
  · show 0 + 1 * b.val = b.val; omega

theorem outR_emb (c : Dev nD) (r : Fin 15) (a : Fin 16) (b : Fin 1024) : (outR c r).idx (ix3 0 a b) = (ix3 0 (rowAt (peer c r) a) b : S1x256x1024.Idx) := by
  funext d
  apply Fin.ext
  show k0_off3 c (BitVec.ofNat 32 (1 + r.val)) d + 1 * (ix3 0 a b d).val = _
  rw [k0_off3_eq]
  fin_cases d
  · rfl
  · show 16 * (peer c r).val + 1 * a.val = 16 * (peer c r).val + a.val; omega
  · show 0 + 1 * b.val = b.val; omega

theorem mineR_emb (c : Dev nD) (a : Fin 16) (b : Fin 1024) : (mineR c).idx (ix3 0 a b) = (ix3 0 (rowAt c a) b : S1x256x1024.Idx) := by
  funext d
  apply Fin.ext
  show k0_off2 c d + 1 * (ix3 0 a b d).val = _
  rw [k0_off2_eq]
  fin_cases d
  · rfl
  · show 16 * c.val + 1 * a.val = 16 * c.val + a.val; omega
  · show 0 + 1 * b.val = b.val; omega

theorem slab_idx (x : S1x16x1024.Idx) : ∃ (a : Fin 16) (b : Fin 1024), x = ix3 0 a b := by
  refine ⟨x 1, x 2, funext fun d => ?_⟩
  fin_cases d
  · exact Subsingleton.elim (α := Fin 1) _ _
  · rfl
  · rfl

/-! ## A store into the result -/

section Store

variable (R : Rect S1x256x1024) (o : FVec Ideal S1x256x1024 .f32) (w : R.shape.Idx → Elt Ideal .f32) (T : FVec Ideal S1x256x1024 .f32)
  (hw : ∀ x, w x = T (R.idx x))

include hw

/-- A store of elements of T leaves what is an element of T so. -/
theorem store_keeps (y : S1x256x1024.Idx) (hy : o y = T y) : (oM.access R).write (Elt Ideal) o w Finset.univ y = T y := by
  by_cases h : y ∈ (oM.access R).setOn Finset.univ
  · obtain ⟨x, -, rfl⟩ := Finset.mem_map.mp h
    exact (View.write_emb_of_mem _ _ (Finset.mem_univ _)).trans (hw x)
  · exact (View.write_of_not_mem _ _ _ h).trans hy

/-- A store of elements of T puts them into its window. -/
theorem store_puts (x : R.shape.Idx) : (oM.access R).write (Elt Ideal) o w Finset.univ (R.idx x) = T (R.idx x) :=
  (View.write_emb_of_mem (v := oM.access R) _ _ (Finset.mem_univ x)).trans (hw x)

end Store

/-! ## The sums -/

theorem shift_zero : ∀ c : Dev nD, c + (0 : Fin 16) = c := by decide +kernel
theorem shift_succ : ∀ (c : Dev nD) (r : Fin 15), c + (r.succ : Fin 16) = peer c r := by decide +kernel

/-- A sum over all devices, from one of them on. -/
theorem sum_devices (c : Dev nD) (f : Dev nD → EReal) : ∑ d, f d = f c + ∑ r : Fin 15, f (peer c r) := by
  rw [← Equiv.sum_comp (Equiv.addLeft c) f]
  refine (Fin.sum_univ_succ (n := 15) fun k => f (c + k)).trans ?_
  rw [shift_zero]
  exact congrArg _ (Finset.sum_congr rfl fun r _ => congrArg f (shift_succ c r))

section Exchange

variable (PB : Dev nD → FVec Ideal S256x1024 .bf16) (OB : Dev nD → FVec Ideal S1x256x1024 .f32) (p : Dev nD → Fin 256 → Fin 1024 → EReal)
variable (hP : ∀ c i n, PB c (ix2 i n) = p c i n) (hO : ∀ c i n, OB c (ix3 0 i n) = p c i n)

/-- The sum of the devices' partial results. -/
def total : FVec Ideal S1x256x1024 .f32 := fun y => ∑ d, p d (y 1) (y 2)

include hP hO

theorem recv_apply (c : Dev nD) (r : Fin 15) (a : Fin 16) (b : Fin 1024) : RV (F := Ideal) PB c (ix3 r a b) = p (peer c r) (rowAt c a) b := by
  show PB (peer c r) ((rows (peer c r) r.rev).view.emb (ix2 a b)) = _
  rw [rows_emb, peer_rev]
  exact hP _ _ _

theorem red_apply (c : Dev nD) (a : Fin 16) (b : Fin 1024) : red (F := Ideal) PB OB c (ix3 0 a b) = ∑ d, p d (rowAt c a) b := by
  have e : ∀ (v : FVec Ideal S1x16x1024 .f32) (u : FVec Ideal S15x16x1024 .bf16), k0_pay22 (F := Ideal) v u (ix3 0 a b) = v (ix3 0 a b) + ∑ r : Fin 15, u (ix3 r a b) := by
    intro v u
    pointwise [k0_pay22]
  unfold red
  refine (e _ _).trans ?_
  rw [sum_devices c]
  refine congrArg₂ (· + ·) ?_ (Finset.sum_congr rfl fun r _ => recv_apply PB OB p hP hO c r a b)
  show OB c ((mineR c).idx (ix3 0 a b)) = _
  rw [mineR_emb]
  exact hO _ _ _

theorem sent_on_apply (c : Dev nD) (a : Fin 16) (b : Fin 1024) : widen (F := Ideal) (GBof (F := Ideal) PB OB c) (ix3 0 a b) = ∑ d, p d (rowAt c a) b := by
  have e : ∀ v : FVec Ideal S1x16x1024 .f32, k0_pay24 (F := Ideal) (k0_pay23 (F := Ideal) v) (ix3 0 a b) = v (ix3 0 a b) := by
    intro v
    pointwise [k0_pay24, k0_pay23]
  exact (e _).trans (red_apply PB OB p hP hO c a b)

theorem arrivals (c : Dev nD) (y : S1x256x1024.Idx) : ∀ (l : List (Fin 15)) (o : FVec Ideal S1x256x1024 .f32),
    (o y = total p y ∨ ∃ r ∈ l, ∃ a b, y = ix3 0 (rowAt (peer c r) a) b) → oAll (F := Ideal) (GBof (F := Ideal) PB OB) c l o y = total p y
  | [], o, h => by
    rcases h with h | ⟨r, hr, -⟩
    · exact h
    · exact absurd hr (List.not_mem_nil)
  | r :: l, o, h => by
    rw [oAll_cons]
    have hw : ∀ x, widen (F := Ideal) (GBof (F := Ideal) PB OB (peer c r)) x = total p ((outR c r).idx x) := by
      intro x
      obtain ⟨a, b, rfl⟩ := slab_idx x
      rw [outR_emb]
      exact sent_on_apply PB OB p hP hO (peer c r) a b
    refine arrivals c y l _ ?_
    rcases h with h | ⟨r', hr, a, b, e⟩
    · exact Or.inl (store_keeps (outR c r) o _ (total p) hw y h)
    · rcases List.mem_cons.mp hr with rfl | hr
      · refine Or.inl ?_
        rw [e, ← outR_emb]
        exact store_puts (outR c r') o _ (total p) hw _
      · exact Or.inr ⟨r', hr, a, b, e⟩

omit hP hO in
theorem mem_rs : ∀ r : Fin 15, r ∈ rs := by decide

/-- The result on every device. -/
theorem final_apply (c : Dev nD) (i : Fin 256) (n : Fin 1024) : OF (F := Ideal) PB c OB (ix3 0 i n) = ∑ d, p d i n := by
  unfold OF
  refine arrivals PB OB p hP hO c (ix3 0 i n) rs _ ?_
  obtain ⟨d, a, rfl⟩ := rowAt_split i
  by_cases h : d = c
  · subst h
    refine Or.inl ?_
    unfold oA
    rw [← mineR_emb]
    refine store_puts (mineR d) _ _ (total p) (fun x => ?_) _
    obtain ⟨a, b, rfl⟩ := slab_idx x
    rw [mineR_emb]
    exact red_apply PB OB p hP hO d a b
  · obtain ⟨r, rfl⟩ := peer_all c d h
    exact Or.inr ⟨r, mem_rs r, a, n, rfl⟩

end Exchange

end Cert.KernelIdeal.Mesh

end
-- ==== Proof.Ref.lean ====
module

public import proofs.«01_k».proof.Proof.Gen.ReferenceIdeal.Run
public import proofs.«01_k».proof.Proof.Softmax

/-!
# The reference, read element by element

Its result as four equal steps of the softmax over 1024 keys each, then the quotient and the output projection; each
step read at an index.
-/

@[expose] public section

noncomputable section

namespace Cert.ReferenceIdeal.Steps

open Cert.ReferenceIdeal Cert.ReferenceIdeal.Gen Idealize.ShloMosaic Idealize.ShloMosaic.TcCoe Idealize.SL.Sem

attribute [local instance] Cert.ReferenceIdeal.Gen.facts

variable {F : FTy → Type} [FloatOps F]

/-- The queries, by head. -/
def queries (x : FVec F S1x256x1024 .f32) (wq : FVec F S1024x16384 .f32) : FVec F S1x256x128x128 .f32 :=
  shapeCast _ (Host.dotGeneral dot_S1x256x1024_S1024x16384_S1x256x16384_2_0_01_1_n_n none x wq) Facts₀.shapeCasts_S1x256x16384_S1x256x128x128

/-- The scores against one chunk of keys. -/
def scores (q : FVec F S1x256x128x128 .f32) (k : FVec F S1x1024x128x128 .f32) : FVec F S1x128x256x1024 .f32 :=
  mulf (Host.dotGeneral dot_S1x256x128x128_S1x1024x128x128_S1x128x256x1024_3_3_1_1_02_02 none q k)
    (broadcastInDim S1x128x256x1024 ![] Facts₀.bcast_S_S1x128x256x1024 (constant S_ .f32 0x3DB504F3#32))

/-- The maximum so far. -/
def peak (m : FVec F S1x128x256x1 .f32) (s : FVec F S1x128x256x1024 .f32) : FVec F S1x128x256x1 .f32 :=
  maximumf m (broadcastInDim S1x128x256x1 ![0, 1, 2] Facts₀.bcast_S1x128x256_S1x128x256x1_0_1_2
    (Host.reduce FloatOps.maximumf s (constant S_ .f32 0xFF800000#32) Facts₀.reducesTo_S1x128x256x1024_S1x128x256_d3 Facts₀.h_S_))

/-- The factor by which a new maximum scales down what is there. -/
def fade (m m' : FVec F S1x128x256x1 .f32) : FVec F S1x128x256x1 .f32 := Host.exp (subf m m')

/-- The weights of a chunk. -/
def weight (s : FVec F S1x128x256x1024 .f32) (m' : FVec F S1x128x256x1 .f32) : FVec F S1x128x256x1024 .f32 :=
  Host.exp (subf s (broadcastInDim S1x128x256x1024 ![0, 1, 2, 3] Facts₀.bcast_S1x128x256x1_S1x128x256x1024_0_1_2_3 m'))

/-- The denominator so far. -/
def denom (l a : FVec F S1x128x256x1 .f32) (p : FVec F S1x128x256x1024 .f32) : FVec F S1x128x256x1 .f32 :=
  addf (mulf l a) (broadcastInDim S1x128x256x1 ![0, 1, 2] Facts₀.bcast_S1x128x256_S1x128x256x1_0_1_2
    (Host.reduceAdd p (constant S_ .f32 0x00000000#32) Facts₀.reducesTo_S1x128x256x1024_S1x128x256_d3 Facts₀.h_S_))

/-- A per-row factor spread over a head's columns. -/
def spread (a : FVec F S1x128x256x1 .f32) : FVec F S1x256x128x128 .f32 :=
  broadcastInDim S1x256x128x128 ![0, 1, 2, 3] Facts₀.bcast_S1x256x128x1_S1x256x128x128_0_1_2_3
    (transpose S1x256x128x1 [0, 2, 1, 3] a Facts₀.transposes_S1x128x256x1_S1x256x128x1_0_2_1_3)

/-- The numerator so far. -/
def numer (o : FVec F S1x256x128x128 .f32) (a : FVec F S1x128x256x1 .f32) (v : FVec F S1x1024x128x128 .f32) (p : FVec F S1x128x256x1024 .f32) :
    FVec F S1x256x128x128 .f32 :=
  addf (mulf o (spread a)) (transpose S1x256x128x128 [0, 3, 1, 2]
    (Host.dotGeneral dot_S1x1024x128x128_S1x128x256x1024_S1x128x128x256_1_3_3_2_02_01 none v p) Facts₀.transposes_S1x128x128x256_S1x256x128x128_0_3_1_2)

/-- A chunk of keys or values. -/
def chunk (t : Fin 4) (k : FVec F S1x4096x128x128 .f32) : FVec F S1x1024x128x128 .f32 :=
  match t with
  | 0 => extractStridedSlice S1x1024x128x128 ![0, 0, 0, 0] k Facts₀.slices_S1x4096x128x128_S1x1024x128x128_0_0_0_0
  | 1 => extractStridedSlice S1x1024x128x128 ![0, 1024, 0, 0] k Facts₀.slices_S1x4096x128x128_S1x1024x128x128_0_1024_0_0
  | 2 => extractStridedSlice S1x1024x128x128 ![0, 2048, 0, 0] k Facts₀.slices_S1x4096x128x128_S1x1024x128x128_0_2048_0_0
  | 3 => extractStridedSlice S1x1024x128x128 ![0, 3072, 0, 0] k Facts₀.slices_S1x4096x128x128_S1x1024x128x128_0_3072_0_0

/-- The output projection of the attended values. -/
def project (a : FVec F S1x256x128x128 .f32) (wo : FVec F S16384x1024 .f32) : FVec F S1x256x1024 .f32 :=
  Host.dotGeneral dot_S1x256x16384_S16384x1024_S1x256x1024_2_0_01_1_n_n none (shapeCast _ a Facts₀.shapeCasts_S1x256x128x128_S1x256x16384) wo

section Chain

variable (x : FVec F S1x256x1024 .f32) (wq : FVec F S1024x16384 .f32) (k v : FVec F S1x4096x128x128 .f32)

/-- The scores against chunk t. -/
def score (t : Fin 4) : FVec F S1x128x256x1024 .f32 := scores (queries x wq) (chunk t k)

/-- The maximum after the first t chunks. -/
def peaks : ℕ → FVec F S1x128x256x1 .f32
  | 0 => broadcastInDim S1x128x256x1 ![] Facts₀.bcast_S_S1x128x256x1 (constant S_ .f32 0xFF800000#32)
  | t + 1 => peak (peaks t) (score x wq k (Fin.ofNat 4 t))

/-- The denominator after the first t chunks. -/
def denoms : ℕ → FVec F S1x128x256x1 .f32
  | 0 => broadcastInDim S1x128x256x1 ![] Facts₀.bcast_S_S1x128x256x1 (constant S_ .f32 0x00000000#32)
  | t + 1 => denom (denoms t) (fade (peaks x wq k t) (peaks x wq k (t + 1))) (weight (score x wq k (Fin.ofNat 4 t)) (peaks x wq k (t + 1)))

/-- The numerator after the first t chunks. -/
def numers : ℕ → FVec F S1x256x128x128 .f32
  | 0 => broadcastInDim S1x256x128x128 ![] Facts₀.bcast_S_S1x256x128x128 (constant S_ .f32 0x00000000#32)
  | t + 1 => numer (numers t) (fade (peaks x wq k t) (peaks x wq k (t + 1))) (chunk (Fin.ofNat 4 t) v)
      (weight (score x wq k (Fin.ofNat 4 t)) (peaks x wq k (t + 1)))

/-- The attended values. -/
def attended : FVec F S1x256x128x128 .f32 := Host.divf (numers x wq k v 4) (spread (denoms x wq k 4))

end Chain

section Chunks

variable (k : FVec F S1x4096x128x128 .f32)

theorem chunk_zero : chunk (Fin.ofNat 4 0) k = extractStridedSlice S1x1024x128x128 ![0, 0, 0, 0] k Facts₀.slices_S1x4096x128x128_S1x1024x128x128_0_0_0_0 := rfl
theorem chunk_one : chunk (Fin.ofNat 4 1) k = extractStridedSlice S1x1024x128x128 ![0, 1024, 0, 0] k Facts₀.slices_S1x4096x128x128_S1x1024x128x128_0_1024_0_0 := rfl
theorem chunk_two : chunk (Fin.ofNat 4 2) k = extractStridedSlice S1x1024x128x128 ![0, 2048, 0, 0] k Facts₀.slices_S1x4096x128x128_S1x1024x128x128_0_2048_0_0 := rfl
theorem chunk_three : chunk (Fin.ofNat 4 3) k = extractStridedSlice S1x1024x128x128 ![0, 3072, 0, 0] k Facts₀.slices_S1x4096x128x128_S1x1024x128x128_0_3072_0_0 := rfl

end Chunks

set_option maxRecDepth 100000 in
set_option maxHeartbeats 4000000 in
/-- The reference's result is the chain of these steps. -/
theorem result_eq (m : (ℓ : Loc nD τ sig) → Buf (Elt F) ℓ) (c : Dev nD) :
    Value.res_main_v101 m c = project (attended (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) := by
  simp only [project, attended, numers, denoms, peaks, numer, denom, peak, spread, fade, weight, score, scores, queries, Nat.zero_add, Nat.reduceAdd,
    chunk_zero, chunk_one, chunk_two, chunk_three]
  exact Value.res_main_v101.eq_1 m c

/-! ## Each step at an index -/

section Read

theorem queries_apply (x : FVec Ideal S1x256x1024 .f32) (wq : FVec Ideal S1024x16384 .f32) (i : Fin 256) (h e : Fin 128) :
    queries x wq (ix4 0 i h e) = ∑ d : Fin 1024, x (ix3 0 i d) * wq (ix2 d ⟨h.val * 128 + e.val, by omega⟩) := by
  pointwise [queries]

theorem scores_apply (q : FVec Ideal S1x256x128x128 .f32) (k : FVec Ideal S1x1024x128x128 .f32) (h : Fin 128) (i : Fin 256) (j : Fin 1024) :
    scores q k (ix4 0 h i j) = (∑ e : Fin 128, q (ix4 0 i h e) * k (ix4 0 j h e)) * Ideal.ofBits .f32 0x3DB504F3#32 := by
  pointwise [scores]

/-- The maximum of two ideal values is theirs in the order of the extended reals. -/
theorem fold_max {n : ℕ} {b b' : EReal} (hb : b = b') (f : Fin n → EReal) :
    Finset.univ.fold (FloatOps.maximumf (F := Ideal) (φ := .f32)) b f = Finset.univ.fold max b' f := by
  subst hb
  have e : (FloatOps.maximumf (F := Ideal) (φ := .f32)) = (max : EReal → EReal → EReal) := rfl
  simp only [e]

/-- The greatest score of a row, over the last axis. -/
theorem row_max (s : FVec Ideal S1x128x256x1024 .f32) (u : FVec Ideal S_ .f32) (h : Fin 128) (i : Fin 256) :
    Host.reduce FloatOps.maximumf s u Facts₀.reducesTo_S1x128x256x1024_S1x128x256_d3 Facts₀.h_S_ (ix3 0 h i)
      = Finset.univ.fold (FloatOps.maximumf (F := Ideal) (φ := .f32)) (u (Shape.Idx.first Facts₀.h_S_)) fun j : Fin 1024 => s (ix4 0 h i j) := by
  rw [Host.reduce_eq_fold, Shape.ReducesTo.fold_fiber_r4_a3]
  rfl

theorem bottom_first : constant (F := Ideal) S_ .f32 0xFF800000#32 (Shape.Idx.first Facts₀.h_S_) = (⊥ : EReal) := by
  show Ideal.ofBits .f32 0xFF800000#32 = (⊥ : EReal)
  simp [Ideal.ofBits, Ideal.ieee]

theorem keep_apply (m : FVec Ideal S1x128x256x1 .f32) (y : FVec Ideal S1x128x256 .f32) (h : Fin 128) (i : Fin 256) :
    maximumf m (broadcastInDim S1x128x256x1 ![0, 1, 2] Facts₀.bcast_S1x128x256_S1x128x256x1_0_1_2 y) (ix4 0 h i 0)
      = max (m (ix4 0 h i 0)) (y (ix3 0 h i)) := by
  pointwise

theorem peak_apply (m : FVec Ideal S1x128x256x1 .f32) (s : FVec Ideal S1x128x256x1024 .f32) (h : Fin 128) (i : Fin 256) :
    peak m s (ix4 0 h i 0) = max (m (ix4 0 h i 0)) (Finset.univ.fold max ⊥ fun j : Fin 1024 => s (ix4 0 h i j)) := by
  unfold peak
  rw [keep_apply, row_max, fold_max bottom_first]

theorem fade_apply (m m' : FVec Ideal S1x128x256x1 .f32) (h : Fin 128) (i : Fin 256) :
    fade m m' (ix4 0 h i 0) = Ideal.exp (m (ix4 0 h i 0) - m' (ix4 0 h i 0)) := by
  pointwise [fade]

theorem weight_apply (s : FVec Ideal S1x128x256x1024 .f32) (m' : FVec Ideal S1x128x256x1 .f32) (h : Fin 128) (i : Fin 256) (j : Fin 1024) :
    weight s m' (ix4 0 h i j) = Ideal.exp (s (ix4 0 h i j) - m' (ix4 0 h i 0)) := by
  pointwise [weight]

theorem denom_apply (l a : FVec Ideal S1x128x256x1 .f32) (p : FVec Ideal S1x128x256x1024 .f32) (h : Fin 128) (i : Fin 256) :
    denom l a p (ix4 0 h i 0) = l (ix4 0 h i 0) * a (ix4 0 h i 0) + ∑ j : Fin 1024, p (ix4 0 h i j) := by
  pointwise [denom]

theorem spread_apply (a : FVec Ideal S1x128x256x1 .f32) (i : Fin 256) (h e : Fin 128) : spread a (ix4 0 i h e) = a (ix4 0 h i 0) := by
  pointwise [spread]

theorem numer_apply (o : FVec Ideal S1x256x128x128 .f32) (a : FVec Ideal S1x128x256x1 .f32) (v : FVec Ideal S1x1024x128x128 .f32)
    (p : FVec Ideal S1x128x256x1024 .f32) (i : Fin 256) (h e : Fin 128) :
    numer o a v p (ix4 0 i h e) = o (ix4 0 i h e) * a (ix4 0 h i 0) + ∑ j : Fin 1024, v (ix4 0 j h e) * p (ix4 0 h i j) := by
  pointwise [numer, spread]

theorem chunk_apply (t : Fin 4) (k : FVec Ideal S1x4096x128x128 .f32) (j : Fin 1024) (h e : Fin 128) :
    chunk t k (ix4 0 j h e) = k (ix4 0 ⟨t.val * 1024 + j.val, by omega⟩ h e) := by
  fin_cases t <;> pointwise [chunk] <;> rfl

theorem project_apply (a : FVec Ideal S1x256x128x128 .f32) (wo : FVec Ideal S16384x1024 .f32) (i : Fin 256) (n : Fin 1024) :
    project a wo (ix3 0 i n) = ∑ k : Fin 16384, a (ix4 0 i ⟨k.val / 128, by omega⟩ ⟨k.val % 128, by omega⟩) * wo (ix2 k n) := by
  pointwise [project]

theorem start_peak (x : FVec Ideal S1x256x1024 .f32) (wq : FVec Ideal S1024x16384 .f32) (k : FVec Ideal S1x4096x128x128 .f32) (h : Fin 128) (i : Fin 256) :
    peaks x wq k 0 (ix4 0 h i 0) = (⊥ : EReal) := bottom_first

theorem start_denom (x : FVec Ideal S1x256x1024 .f32) (wq : FVec Ideal S1024x16384 .f32) (k : FVec Ideal S1x4096x128x128 .f32) (h : Fin 128) (i : Fin 256) :
    denoms x wq k 0 (ix4 0 h i 0) = (0 : EReal) := Ideal.ofBits_zero_f32

theorem start_numer (x : FVec Ideal S1x256x1024 .f32) (wq : FVec Ideal S1024x16384 .f32) (k v : FVec Ideal S1x4096x128x128 .f32) (i : Fin 256) (h e : Fin 128) :
    numers x wq k v 0 (ix4 0 i h e) = (0 : EReal) := Ideal.ofBits_zero_f32

variable (x : FVec Ideal S1x256x1024 .f32) (wq : FVec Ideal S1024x16384 .f32) (k v : FVec Ideal S1x4096x128x128 .f32)

theorem next_peak (t : ℕ) (h : Fin 128) (i : Fin 256) : peaks x wq k (t + 1) (ix4 0 h i 0)
    = max (peaks x wq k t (ix4 0 h i 0)) (Finset.univ.fold max ⊥ fun j : Fin 1024 => score x wq k (Fin.ofNat 4 t) (ix4 0 h i j)) :=
  peak_apply _ _ h i

theorem next_denom (t : ℕ) (h : Fin 128) (i : Fin 256) : denoms x wq k (t + 1) (ix4 0 h i 0)
    = denoms x wq k t (ix4 0 h i 0) * Ideal.exp (peaks x wq k t (ix4 0 h i 0) - peaks x wq k (t + 1) (ix4 0 h i 0))
      + ∑ j : Fin 1024, Ideal.exp (score x wq k (Fin.ofNat 4 t) (ix4 0 h i j) - peaks x wq k (t + 1) (ix4 0 h i 0)) := by
  rw [denoms, denom_apply, fade_apply]
  exact congrArg _ (Finset.sum_congr rfl fun j _ => weight_apply _ _ h i j)

theorem next_numer (t : ℕ) (i : Fin 256) (h e : Fin 128) : numers x wq k v (t + 1) (ix4 0 i h e)
    = numers x wq k v t (ix4 0 i h e) * Ideal.exp (peaks x wq k t (ix4 0 h i 0) - peaks x wq k (t + 1) (ix4 0 h i 0))
      + ∑ j : Fin 1024, chunk (Fin.ofNat 4 t) v (ix4 0 j h e)
          * Ideal.exp (score x wq k (Fin.ofNat 4 t) (ix4 0 h i j) - peaks x wq k (t + 1) (ix4 0 h i 0)) := by
  rw [numers, numer_apply, fade_apply]
  exact congrArg _ (Finset.sum_congr rfl fun j _ => by rw [weight_apply])

/-- Key j of chunk t. -/
abbrev pos (t : Fin 4) (j : Fin 1024) : Fin 4096 := ⟨t.val * 1024 + j.val, by omega⟩

/-- Real operands give real scores. -/
theorem score_real (xr : Fin 256 → Fin 1024 → ℝ) (wqr : Fin 1024 → Fin 16384 → ℝ) (kr : Fin 4096 → Fin 128 → Fin 128 → ℝ)
    (hx : ∀ i d, x (ix3 0 i d) = (xr i d : EReal)) (hw : ∀ d n, wq (ix2 d n) = (wqr d n : EReal)) (hk : ∀ j h e, k (ix4 0 j h e) = (kr j h e : EReal))
    (t : Fin 4) (h : Fin 128) (i : Fin 256) (j : Fin 1024) :
    score x wq k t (ix4 0 h i j)
      = ((Softmax.score (fun e => ∑ d, xr i d * wqr d ⟨h.val * 128 + e.val, by omega⟩) (fun j e => kr j h e) (pos t j) : ℝ) : EReal) := by
  rw [score, scores_apply, Softmax.sigma_bits, Softmax.score, EReal.coe_mul, ← Softmax.coe_dot]
  refine congrArg (· * (Softmax.sigma : EReal)) (Finset.sum_congr rfl fun e _ => ?_)
  rw [queries_apply, chunk_apply, hk, ← Softmax.coe_dot]
  exact congrArg (· * (kr (pos t j) h e : EReal)) (Finset.sum_congr rfl fun d _ => by rw [hx, hw])

/-- The attended values: each query's attention to its head's values. -/
theorem attended_apply (xr : Fin 256 → Fin 1024 → ℝ) (wqr : Fin 1024 → Fin 16384 → ℝ) (kr : Fin 4096 → Fin 128 → Fin 128 → ℝ)
    (hx : ∀ i d, x (ix3 0 i d) = (xr i d : EReal)) (hw : ∀ d n, wq (ix2 d n) = (wqr d n : EReal)) (hk : ∀ j h e, k (ix4 0 j h e) = (kr j h e : EReal))
    (i : Fin 256) (h e : Fin 128) :
    attended x wq k v (ix4 0 i h e)
      = Softmax.attend (fun e => ∑ d, xr i d * wqr d ⟨h.val * 128 + e.val, by omega⟩) (fun j e => kr j h e) (fun j => v (ix4 0 j h e)) := by
  have hs := fun t j => score_real x wq k xr wqr kr hx hw hk t h i j
  have hm := fun t => next_peak x wq k t h i
  have hl := fun t => next_denom x wq k t h i
  have ho := fun t => next_numer x wq k v t i h e
  have z := start_peak x wq k h i
  have zl := start_denom x wq k h i
  have zo := start_numer x wq k v i h e
  simp only [hs, chunk_apply] at hm hl ho
  have key := Softmax.four (n := 1024) (by norm_num)
    (fun t j => Softmax.score (fun e => ∑ d, xr i d * wqr d ⟨h.val * 128 + e.val, by omega⟩) (fun j e => kr j h e) (pos t j))
    (fun t j => v (ix4 0 (pos t j) h e))
    ((hm 0).trans (by rw [z]; rfl)) (hm 1) (hm 2) (hm 3) ((hl 0).trans (by rw [zl, z]; rfl)) (hl 1) (hl 2) (hl 3) ((ho 0).trans (by rw [zo, z]; rfl)) (ho 1) (ho 2) (ho 3)
  have hd : attended x wq k v (ix4 0 i h e) = Ideal.div (numers x wq k v 4 (ix4 0 i h e)) (denoms x wq k 4 (ix4 0 h i 0)) := by
    unfold attended
    pointwise [spread_apply]
  rw [hd]
  refine key.trans ?_
  unfold Softmax.attend
  rw [Fin.sum_univ_tiles 4 1024 (by norm_num) (fun j : Fin 4096 => ((Real.exp _ : ℝ) : EReal) * v (ix4 0 j h e)),
    Fin.sum_univ_tiles 4 1024 (by norm_num) (fun j : Fin 4096 => Real.exp _)]

/-- The reference's result at an index. -/
theorem result_apply (xr : Fin 256 → Fin 1024 → ℝ) (wqr : Fin 1024 → Fin 16384 → ℝ) (kr : Fin 4096 → Fin 128 → Fin 128 → ℝ)
    (hx : ∀ i d, x (ix3 0 i d) = (xr i d : EReal)) (hw : ∀ d n, wq (ix2 d n) = (wqr d n : EReal)) (hk : ∀ j h e, k (ix4 0 j h e) = (kr j h e : EReal))
    (wo : FVec Ideal S16384x1024 .f32) (i : Fin 256) (n : Fin 1024) :
    project (attended x wq k v) wo (ix3 0 i n)
      = ∑ h : Fin 128, ∑ e : Fin 128,
          Softmax.attend (fun e => ∑ d, xr i d * wqr d ⟨h.val * 128 + e.val, by omega⟩) (fun j e => kr j h e) (fun j => v (ix4 0 j h e))
            * wo (ix2 ⟨h.val * 128 + e.val, by omega⟩ n) := by
  rw [project_apply, Fin.sum_univ_tiles 128 128 (by norm_num)]
  refine Finset.sum_congr rfl fun h _ => Finset.sum_congr rfl fun e _ => ?_
  rw [← attended_apply x wq k v xr wqr kr hx hw hk i h e]
  have h1 : (h.val * 128 + e.val) / 128 = h.val := by omega
  have h2 : (h.val * 128 + e.val) % 128 = e.val := by omega
  simp only [h1, h2]

end Read

end Cert.ReferenceIdeal.Steps

end
-- ==== Proof.Value.lean ====
module

public import proofs.«01_k».proof.Defs
public import proofs.«01_k».proof.Proof.ExchVal
public import proofs.«01_k».proof.Proof.Ref
public import proofs.«01_k».proof.Proof.Run
public import Idealize.ShloMosaic.Lib.ReduceAll

/-!
# The kernel's result is the reference's

On finite inputs, queries' projections and keys the sum of the sixteen devices' partial results is the reference's sum over its 128
heads: device c has heads 8 c to 8 c + 7.
-/

@[expose] public section

noncomputable section

namespace Cert

open Idealize.ShloMosaic Idealize.SL.Sem
open Idealize.ShloMosaic.TcCoe

/-! ## The precondition -/

theorem pre_facts_kernel : Cert.Pre_finite_in_KernelIdeal.Facts := ⟨by decide, by decide, by decide, by decide, by decide, by decide, by decide⟩
theorem pre_facts_reference : Cert.Pre_finite_in_ReferenceIdeal.Facts := ⟨by decide, by decide, by decide, by decide, by decide, by decide, by decide⟩

attribute [local instance] Cert.KernelIdeal.Gen.facts Cert.ReferenceIdeal.Gen.facts pre_facts_kernel

/-- An extended real whose absolute value is below infinity is a real. -/
theorem real_of_abs (x : EReal) (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  have hl : max x (-x) < ⊤ := by
    by_contra hn
    unfold Ideal.cmp at h
    simp [hn] at h
  refine (EReal.coe_toReal ?_ ?_).symm
  · rintro rfl; simp at hl
  · rintro rfl; simp at hl

theorem pre_finite (x : FVec Ideal ⟨3, ![1, 256, 1024]⟩ .f32) (wq : FVec Ideal ⟨2, ![1024, 1024]⟩ .f32) (k v : FVec Ideal ⟨4, ![1, 4096, 8, 128]⟩ .f32)
    (wo : FVec Ideal ⟨2, ![1024, 1024]⟩ .f32) (h : Cert.Pre_finite_in_KernelIdeal.fn (F := Ideal) x wq k v wo = fun _ => 1#1) :
    (∀ i, x i = (((x i : EReal).toReal : ℝ) : EReal)) ∧ (∀ i, wq i = (((wq i : EReal).toReal : ℝ) : EReal)) ∧ (∀ i, k i = (((k i : EReal).toReal : ℝ) : EReal)) := by
  have h0 := congrFun h fun a => a.elim0
  obtain ⟨h1, hk⟩ := IntOp.andi_eq_one.1 h0
  obtain ⟨hx, hw⟩ := IntOp.andi_eq_one.1 h1
  haveI : Subsingleton (Cert.Pre_finite_in_KernelIdeal.S_).Idx := ⟨fun a b => funext fun i => i.elim0⟩
  exact ⟨fun i => real_of_abs _ (Host.reduce_andi_all _ _ _ _ _ hx i), fun i => real_of_abs _ (Host.reduce_andi_all _ _ _ _ _ hw i),
    fun i => real_of_abs _ (Host.reduce_andi_all _ _ _ _ _ hk i)⟩

/-! ## The blocks -/

section Blocks

variable (c : Fin 16)

theorem wq_block (w : FVec Ideal ⟨2, ![1024, 16384]⟩ .f32) (d t : Fin 1024) :
    Layout.block ⟨2, ![1024, 1024]⟩ ⟨2, ![1024, 16384]⟩ 1 16 c w (by decide) (ix2 d t) = w (ix2 d ⟨c.val * 1024 + t.val, by omega⟩) :=
  congrArg w (funext fun b => Fin.ext (by fin_cases b <;> rfl))
theorem kv_block (w : FVec Ideal ⟨4, ![1, 4096, 128, 128]⟩ .f32) (j : Fin 4096) (h : Fin 8) (e : Fin 128) :
    Layout.block ⟨4, ![1, 4096, 8, 128]⟩ ⟨4, ![1, 4096, 128, 128]⟩ 2 16 c w (by decide) (ix4 0 j h e) = w (ix4 0 j ⟨c.val * 8 + h.val, by omega⟩ e) :=
  congrArg w (funext fun b => Fin.ext (by fin_cases b <;> rfl))
theorem wo_block (w : FVec Ideal ⟨2, ![16384, 1024]⟩ .f32) (d t : Fin 1024) :
    Layout.block ⟨2, ![1024, 1024]⟩ ⟨2, ![16384, 1024]⟩ 0 16 c w (by decide) (ix2 d t) = w (ix2 ⟨c.val * 1024 + d.val, by omega⟩ t) :=
  congrArg w (funext fun b => Fin.ext (by fin_cases b <;> rfl))

end Blocks

/-- An array whose blocks hold reals holds reals. -/
theorem wq_real (w : FVec Ideal ⟨2, ![1024, 16384]⟩ .f32)
    (h : ∀ (c : Fin 16) i, Layout.block ⟨2, ![1024, 1024]⟩ ⟨2, ![1024, 16384]⟩ 1 16 c w (by decide) i
      = (((Layout.block ⟨2, ![1024, 1024]⟩ ⟨2, ![1024, 16384]⟩ 1 16 c w (by decide) i : EReal).toReal : ℝ) : EReal)) (d : Fin 1024) (n : Fin 16384) :
    w (ix2 d n) = (((w (ix2 d n) : EReal).toReal : ℝ) : EReal) := by
  have e : (⟨n.val / 1024 * 1024 + n.val % 1024, by omega⟩ : Fin 16384) = n := Fin.ext (Nat.div_add_mod' _ _)
  have := h ⟨n.val / 1024, by omega⟩ (ix2 d ⟨n.val % 1024, by omega⟩)
  rw [wq_block] at this
  simpa only [e] using this
@[inherit_doc wq_real] theorem kv_real (w : FVec Ideal ⟨4, ![1, 4096, 128, 128]⟩ .f32)
    (h : ∀ (c : Fin 16) i, Layout.block ⟨4, ![1, 4096, 8, 128]⟩ ⟨4, ![1, 4096, 128, 128]⟩ 2 16 c w (by decide) i
      = (((Layout.block ⟨4, ![1, 4096, 8, 128]⟩ ⟨4, ![1, 4096, 128, 128]⟩ 2 16 c w (by decide) i : EReal).toReal : ℝ) : EReal))
    (j : Fin 4096) (g e : Fin 128) :
    w (ix4 0 j g e) = (((w (ix4 0 j g e) : EReal).toReal : ℝ) : EReal) := by
  have eg : (⟨g.val / 8 * 8 + g.val % 8, by omega⟩ : Fin 128) = g := Fin.ext (Nat.div_add_mod' _ _)
  have := h ⟨g.val / 8, by omega⟩ (ix4 0 j ⟨g.val % 8, by omega⟩ e)
  rw [kv_block] at this
  simpa only [eg] using this

/-! ## The sum over the devices -/

open KernelIdeal.Mesh in
/-- The partial sums of the sixteen devices add up to the sum over all heads. -/
theorem sum_parts (xr : Fin 256 → Fin 1024 → ℝ) (wqr : Fin 1024 → Fin 16384 → ℝ) (kr : Fin 4096 → Fin 128 → Fin 128 → ℝ)
    (v : FVec Ideal ⟨4, ![1, 4096, 128, 128]⟩ .f32) (wo : FVec Ideal ⟨2, ![16384, 1024]⟩ .f32) (i : Fin 256) (n : Fin 1024) :
    (∑ c : Fin 16, partSum (Layout.block ⟨2, ![1024, 1024]⟩ ⟨2, ![16384, 1024]⟩ 0 16 c wo (by decide))
      (Layout.block ⟨4, ![1, 4096, 8, 128]⟩ ⟨4, ![1, 4096, 128, 128]⟩ 2 16 c v (by decide)) xr
      (fun d t => wqr d ⟨c.val * 1024 + t.val, by omega⟩) (fun j h e => kr j ⟨c.val * 8 + h.val, by omega⟩ e) i n)
      = ∑ h : Fin 128, ∑ e : Fin 128, Softmax.attend (fun e => ∑ d, xr i d * wqr d ⟨h.val * 128 + e.val, by omega⟩) (fun j e => kr j h e)
          (fun j => v (ix4 0 j h e)) * wo (ix2 ⟨h.val * 128 + e.val, by omega⟩ n) := by
  rw [Fin.sum_univ_tiles 16 8 rfl]
  refine Finset.sum_congr rfl fun c _ => ?_
  unfold partSum
  refine Finset.sum_congr rfl fun h _ => ?_
  unfold headSum
  have at_ : ∀ e : Fin 128, c.val * 1024 + (h.val * 128 + e.val) = (c.val * 8 + h.val) * 128 + e.val := fun e => by omega
  refine Finset.sum_congr rfl fun e _ => congrArg₂ (· * ·) ?_ ?_
  · have hq : (fun e : Fin 128 => ∑ d, xr i d * wqr d ⟨c.val * 1024 + (h.val * 128 + e.val), by omega⟩)
        = fun e : Fin 128 => ∑ d, xr i d * wqr d ⟨(c.val * 8 + h.val) * 128 + e.val, by omega⟩ :=
      funext fun e => Finset.sum_congr rfl fun d _ => congrArg (fun t => xr i d * wqr d t) (Fin.ext (at_ e))
    have hv : (fun j => Layout.block ⟨4, ![1, 4096, 8, 128]⟩ ⟨4, ![1, 4096, 128, 128]⟩ 2 16 c v (by decide) (ix4 0 j h e))
        = fun j => v (ix4 0 j ⟨c.val * 8 + h.val, by omega⟩ e) := funext fun j => kv_block c v j h e
    rw [hv]
    exact congrArg (fun q => Softmax.attend q _ _) hq
  · rw [wo_block]
    exact congrArg (fun t => wo (ix2 t n)) (Fin.ext (at_ e))

/-! ## The windows -/

section Windows

open KernelIdeal

theorem read_x (f : FVec Ideal ⟨3, ![1, 256, 1024]⟩ .f32) : (win0_0.blk (0 : Fin 1)).view.read (Elt Ideal) f = f :=
  Memref.read_access_unit_zero (Elt Ideal) main_arg0 (funext fun a => by fin_cases a <;> decide) (fun a => by fin_cases a <;> decide) f
theorem read_wq (f : FVec Ideal ⟨2, ![1024, 1024]⟩ .f32) : (win0_1.blk (0 : Fin 1)).view.read (Elt Ideal) f = f :=
  Memref.read_access_unit_zero (Elt Ideal) main_arg1 (funext fun a => by fin_cases a <;> decide) (fun a => by fin_cases a <;> decide) f
theorem read_wo (f : FVec Ideal ⟨2, ![1024, 1024]⟩ .f32) : (win0_2.blk (0 : Fin 1)).view.read (Elt Ideal) f = f :=
  Memref.read_access_unit_zero (Elt Ideal) main_arg4 (funext fun a => by fin_cases a <;> decide) (fun a => by fin_cases a <;> decide) f
theorem read_result (f : FVec Ideal ⟨3, ![1, 256, 1024]⟩ .f32) : (win0_3.blk (0 : Fin 1)).view.read (Elt Ideal) f = f :=
  Memref.read_access_unit_zero (Elt Ideal) main_v1 (funext fun a => by fin_cases a <;> decide) (fun a => by fin_cases a <;> decide) f

end Windows

/-! ## The claim -/

section Whole

open KernelIdeal.Mesh

variable (x : FVec Ideal ⟨3, ![1, 256, 1024]⟩ .f32) (wq : FVec Ideal ⟨2, ![1024, 16384]⟩ .f32) (k v : FVec Ideal ⟨4, ![1, 4096, 128, 128]⟩ .f32)
  (wo : FVec Ideal ⟨2, ![16384, 1024]⟩ .f32)

theorem whole_value (B : Blocks Ideal) (hBx : ∀ c, B.x c = x)
    (hBq : ∀ c, B.wq c = Layout.block ⟨2, ![1024, 1024]⟩ ⟨2, ![1024, 16384]⟩ 1 16 c wq (by decide))
    (hBk : ∀ c, B.k c = Layout.block ⟨4, ![1, 4096, 8, 128]⟩ ⟨4, ![1, 4096, 128, 128]⟩ 2 16 c k (by decide))
    (hBv : ∀ c, B.v c = Layout.block ⟨4, ![1, 4096, 8, 128]⟩ ⟨4, ![1, 4096, 128, 128]⟩ 2 16 c v (by decide))
    (hBo : ∀ c, B.wo c = Layout.block ⟨2, ![1024, 1024]⟩ ⟨2, ![16384, 1024]⟩ 0 16 c wo (by decide))
    (xr : Fin 256 → Fin 1024 → ℝ) (wqr : Fin 1024 → Fin 16384 → ℝ) (kr : Fin 4096 → Fin 128 → Fin 128 → ℝ)
    (hx : ∀ i d, x (ix3 0 i d) = (xr i d : EReal)) (hw : ∀ d n, wq (ix2 d n) = (wqr d n : EReal)) (hk : ∀ j h e, k (ix4 0 j h e) = (kr j h e : EReal))
    (c : Fin 16) (i : Fin 256) (n : Fin 1024) :
    outOf B c (ix3 0 i n) = ReferenceIdeal.Steps.project (ReferenceIdeal.Steps.attended x wq k v) wo (ix3 0 i n) := by
  rw [ReferenceIdeal.Steps.result_apply x wq k v xr wqr kr hx hw hk wo i n, ← sum_parts xr wqr kr v wo i n]
  unfold outOf
  have hx' : ∀ c i d, B.x c (ix3 0 i d) = (xr i d : EReal) := fun c i d => by rw [hBx]; exact hx i d
  have hw' : ∀ (c : Fin 16) d t, B.wq c (ix2 d t) = (wqr d ⟨c.val * 1024 + t.val, by omega⟩ : EReal) := fun c d t => by
    rw [hBq]; exact (wq_block c wq d t).trans (hw _ _)
  have hk' : ∀ (c : Fin 16) j h e, B.k c (ix4 0 j h e) = (kr j ⟨c.val * 8 + h.val, by omega⟩ e : EReal) := fun c j h e => by
    rw [hBk]; exact (kv_block c k j h e).trans (hk _ _ _)
  refine final_apply (PBs B) (OBs B) (fun c : Fin 16 => partSum (Layout.block ⟨2, ![1024, 1024]⟩ ⟨2, ![16384, 1024]⟩ 0 16 c wo (by decide))
      (Layout.block ⟨4, ![1, 4096, 8, 128]⟩ ⟨4, ![1, 4096, 128, 128]⟩ 2 16 c v (by decide)) xr
      (fun d t => wqr d ⟨c.val * 1024 + t.val, by omega⟩) (fun j h e => kr j ⟨c.val * 8 + h.val, by omega⟩ e)) ?_ ?_ c i n
  · intro c i n
    refine (sent_apply (B.x c) (B.wq c) (B.wo c) (B.k c) (B.v c) xr _ _ (hx' c) (hw' c) (hk' c) i n).trans ?_
    rw [hBo, hBv]
  · intro c i n
    refine (own_apply (B.x c) (B.wq c) (B.wo c) (B.k c) (B.v c) xr _ _ (hx' c) (hw' c) (hk' c) i n).trans ?_
    rw [hBo, hBv]

end Whole

theorem out_idx (y : (⟨3, ![1, 256, 1024]⟩ : Shape).Idx) : ∃ (i : Fin 256) (n : Fin 1024), y = ix3 0 i n := by
  refine ⟨y 1, y 2, funext fun d => ?_⟩
  fin_cases d
  · exact Subsingleton.elim (α := Fin 1) _ _
  · rfl
  · rfl

theorem algebraic : algebraic_KernelIdeal_ReferenceIdeal_pre_finite_in_KernelIdeal := by
  intro m g m' g' hpre hin
  have href := ReferenceIdeal.Value.run (F := Ideal) m' g'
  refine ⟨ReferenceIdeal.Value.res_main_v101 m' 0, ?_, (θ_run (ReferenceIdeal.defs (F := Ideal)) _ _).mono (fun r h => h 0) href⟩
  refine (θ_run (KernelIdeal.defs (F := Ideal)) _ _).mono (fun r h c => ⟨((h.1 c).1).trans ?_, (h.1 c).2⟩) (KernelIdeal.Mesh.run_arrays (F := Ideal) m g)
  have hf := KernelIdeal.Mesh.final_eq (F := Ideal) m c
  rw [ReferenceIdeal.Steps.result_eq]
  refine (read_result _).symm.trans (hf.trans ?_)
  unfold KernelIdeal.Mesh.result
  funext y
  obtain ⟨i, n, rfl⟩ := out_idx y
  have hfin := fun c => pre_finite _ _ _ _ _ (hpre c)
  have hx : ∀ (i : Fin 256) (d : Fin 1024), (m' ((0 : Dev ReferenceIdeal.nD).tc.loc ReferenceIdeal.main_arg0) : FVec Ideal ⟨3, ![1, 256, 1024]⟩ .f32) (ix3 0 i d)
      = ((EReal.toReal ((m' ((0 : Dev ReferenceIdeal.nD).tc.loc ReferenceIdeal.main_arg0) : FVec Ideal ⟨3, ![1, 256, 1024]⟩ .f32) (ix3 0 i d)) : ℝ) : EReal) :=
    fun i d => (hin c).1 ▸ (hfin c).1 (ix3 0 i d)
  have hw := wq_real (m' ((0 : Dev ReferenceIdeal.nD).tc.loc ReferenceIdeal.main_arg1)) fun c => (hin c).2.1 ▸ (hfin c).2.1
  have hk := kv_real (m' ((0 : Dev ReferenceIdeal.nD).tc.loc ReferenceIdeal.main_arg2)) fun c => (hin c).2.2.1 ▸ (hfin c).2.2
  exact whole_value _ _ _ _ _ (KernelIdeal.Mesh.blocks m) (fun c => (read_x _).trans (hin c).1) (fun c => (read_wq _).trans (hin c).2.1) (fun c => (hin c).2.2.1)
    (fun c => (hin c).2.2.2.1) (fun c => (read_wo _).trans (hin c).2.2.2.2) (fun i d => EReal.toReal _) (fun d n => EReal.toReal _) (fun j h e => EReal.toReal _)
    hx hw hk c i n

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.pre_facts_kernel, Cert.pre_facts_reference,
  Cert.frame_kernel, Cert.frame_ideal, fun m g _ => Cert.frame_ideal m g trivial, Cert.frame_reference, fun m g _ => Cert.frame_reference m g trivial,
  Cert.preserves, Cert.algebraic⟩

end Cert.Proof

end
